-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_c [hPre_finite_c : Cert.Pre_finite_c.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_c.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_c [hPre_finite_c : Cert.Pre_finite_c.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_c.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_c [hKernel4Ideal : Cert.Kernel4Ideal.Facts] [hPre_finite_c : Cert.Pre_finite_c.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_c m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_c [hReference4Ideal : Cert.Reference4Ideal.Facts] [hPre_finite_c : Cert.Pre_finite_c.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_c m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)) (v5 : (c : Dev Cert.Kernel3Ideal.nD) → Buf (Elt Ideal) ((c.tc : Thread Cert.Kernel3Ideal.nD Cert.Kernel3Ideal.τ).loc Cert.Kernel3Ideal.main_v35_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_v35_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v136) = v0 c
          ∧ r.2.mem ((c.tc : Thread Cert.Reference3Ideal.nD Cert.Reference3Ideal.τ).loc Cert.Reference3Ideal.main_v137) = v1 c
          ∧ r.2.mem ((c.tc : Thread Cert.Reference3Ideal.nD Cert.Reference3Ideal.τ).loc Cert.Reference3Ideal.main_v138) = v2 c
          ∧ r.2.mem ((c.tc : Thread Cert.Reference3Ideal.nD Cert.Reference3Ideal.τ).loc Cert.Reference3Ideal.main_v139) = v3 c
          ∧ r.2.mem ((c.tc : Thread Cert.Reference3Ideal.nD Cert.Reference3Ideal.τ).loc Cert.Reference3Ideal.main_v141) = v4 c
          ∧ r.2.mem ((c.tc : Thread Cert.Reference3Ideal.nD Cert.Reference3Ideal.τ).loc Cert.Reference3Ideal.main_v135) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_c [hKernel4Ideal : Cert.Kernel4Ideal.Facts] [hReference4Ideal : Cert.Reference4Ideal.Facts] [hPre_finite_c : Cert.Pre_finite_c.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_c m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_c : Cert.Pre_finite_c.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite_c (hKernel4Ideal := hKernel4Ideal) (hPre_finite_c := hPre_finite_c)
    ∧ quiescent_Reference4Ideal (hReference4Ideal := hReference4Ideal)
    ∧ quiescent_Reference4Ideal_pre_finite_c (hReference4Ideal := hReference4Ideal) (hPre_finite_c := hPre_finite_c)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite_c (hKernel4Ideal := hKernel4Ideal) (hReference4Ideal := hReference4Ideal) (hPre_finite_c := hPre_finite_c)
-- ==== Pre_finite.lean ====
abbrev S4x8192x1024 : Shape := ⟨3, ![4, 8192, 1024]⟩
abbrev S4x6144 : Shape := ⟨2, ![4, 6144]⟩
abbrev S1024 : Shape := ⟨1, ![1024]⟩
abbrev S1024x7696 : Shape := ⟨2, ![1024, 7696]⟩
abbrev S4x1536 : Shape := ⟨2, ![4, 1536]⟩
abbrev S4x1024 : Shape := ⟨2, ![4, 1024]⟩
abbrev S4x512 : Shape := ⟨2, ![4, 512]⟩
abbrev S512 : Shape := ⟨1, ![512]⟩
abbrev S_ : Shape := ⟨0, ![]⟩

class Facts : Prop where
  bcast_S_S4x8192x1024 : S_.BroadcastsInDim S4x8192x1024 (![] : Fin 0 → Fin S4x8192x1024.rank)
  bcast_S_S4x6144 : S_.BroadcastsInDim S4x6144 (![] : Fin 0 → Fin S4x6144.rank)
  bcast_S_S1024 : S_.BroadcastsInDim S1024 (![] : Fin 0 → Fin S1024.rank)
  bcast_S_S1024x7696 : S_.BroadcastsInDim S1024x7696 (![] : Fin 0 → Fin S1024x7696.rank)
  bcast_S_S4x1536 : S_.BroadcastsInDim S4x1536 (![] : Fin 0 → Fin S4x1536.rank)
  bcast_S_S4x1024 : S_.BroadcastsInDim S4x1024 (![] : Fin 0 → Fin S4x1024.rank)

variable [Facts]

def fn_part1 {F : FTy → Type} [FloatOps F] (main_arg6 : FVec F S1024 .f32) (main_v2 : IVec S4x8192x1024 1) (main_v5 : IVec S4x6144 1) (main_v8 : IVec S1024 1) (main_v11 : IVec S1024x7696 1) (main_v14 : IVec S4x1536 1) (main_v17 : IVec S4x1024 1) : IVec S4x8192x1024 1 × IVec S4x6144 1 × IVec S1024 1 × IVec S1024x7696 1 × IVec S4x1536 1 × IVec S4x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S4x8192x1024 .f32) (main_arg1 : FVec F S4x6144 .f32) (main_arg2 : FVec F S1024 .f32) (main_arg3 : FVec F S1024x7696 .f32) (main_arg4 : FVec F S4x1536 .f32) (main_arg5 : FVec F S4x1024 .f32) (main_arg6 : FVec F S1024 .f32) (main_arg7 : FVec F S4x512 .f32) (main_arg8 : FVec F S512 .f32) : IVec S4x8192x1024 1 × IVec S4x6144 1 × IVec S1024 1 × IVec S1024x7696 1 × IVec S4x1536 1 × IVec S4x1024 1 × IVec S1024 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x6144 .f32 := Host.absf main_arg1
  let main_cst_0 : FVec F S_ .f32 := constant S_ .f32 0x7F800000#32
  let main_v4 : FVec F S4x6144 .f32 := broadcastInDim S4x6144 ![] bcast_S_S4x6144 main_cst_0
  let main_v5 : IVec S4x6144 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x7696 .f32 := Host.absf main_arg3
  let main_cst_2 : FVec F S_ .f32 := constant S_ .f32 0x7F800000#32
  let main_v10 : FVec F S1024x7696 .f32 := broadcastInDim S1024x7696 ![] bcast_S_S1024x7696 main_cst_2
  let main_v11 : IVec S1024x7696 1 := cmpf .olt main_v9 main_v10
  let main_v12 : FVec F S4x1536 .f32 := Host.absf main_arg4
  let main_cst_3 : FVec F S_ .f32 := constant S_ .f32 0x7F800000#32
  let main_v13 : FVec F S4x1536 .f32 := broadcastInDim S4x1536 ![] bcast_S_S4x1536 main_cst_3
  let main_v14 : IVec S4x1536 1 := cmpf .olt main_v12 main_v13
  let main_v15 : FVec F S4x1024 .f32 := Host.absf main_arg5
  let main_cst_4 : FVec F S_ .f32 := constant S_ .f32 0x7F800000#32
  let main_v16 : FVec F S4x1024 .f32 := broadcastInDim S4x1024 ![] bcast_S_S4x1024 main_cst_4
  let main_v17 : IVec S4x1024 1 := cmpf .olt main_v15 main_v16
  fn_part1 (F := F) main_arg6 main_v2 main_v5 main_v8 main_v11 main_v14 main_v17
-- ==== Pre_finite_c.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : FVec F S4x1024 .f32) (main_arg1 : FVec F S2x1024x6144 .f32) (main_arg2 : FVec F S2x6144 .f32) : IVec S4x1024 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  main_v2
-- ==== Kernel.lean ====
abbrev S4x8192x512 : Shape := ⟨3, ![4, 8192, 512]⟩
abbrev S4x8192x1536 : Shape := ⟨3, ![4, 8192, 1536]⟩
abbrev S8x64x64 : Shape := ⟨3, ![8, 64, 64]⟩
abbrev S512 : Shape := ⟨1, ![512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S1024 : Shape := ⟨1, ![1024]⟩
abbrev S1x1024 : Shape := ⟨2, ![1, 1024]⟩
abbrev S1x512 : Shape := ⟨2, ![1, 512]⟩
abbrev S1x2048x512 : Shape := ⟨3, ![1, 2048, 512]⟩
abbrev S2048x512 : Shape := ⟨2, ![2048, 512]⟩
abbrev S2048x1024 : Shape := ⟨2, ![2048, 1024]⟩
abbrev S256x8x512 : Shape := ⟨3, ![256, 8, 512]⟩
abbrev S1x8x512 : Shape := ⟨3, ![1, 8, 512]⟩
abbrev S8x512 : Shape := ⟨2, ![8, 512]⟩

abbrev nBuf : Space → Nat
  | .hbm => 39
  | .vmem => 10
  | .smem => 0
  | _ => 0

abbrev bufTy : (tb : Table) → Fin (tcTables nBuf tb) → BufTy
  | .hbm, ⟨0, _⟩ => ⟨S4x8192x512, .bf16⟩
  | .hbm, ⟨1, _⟩ => ⟨S4x8192x1536, .bf16⟩
  | .hbm, ⟨2, _⟩ => ⟨S8x64x64, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S512, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x1x8x1, .f32⟩
  | .hbm, ⟨15, _⟩ => ⟨S8x64x1x64, .f32⟩
  | .hbm, ⟨16, _⟩ => ⟨S8x64x8x64, .f32⟩
  | .hbm, ⟨17, _⟩ => ⟨S8x64x8x64, .f32⟩
  | .hbm, ⟨18, _⟩ => ⟨S8x64x8x64, .f32⟩
  | .hbm, ⟨19, _⟩ => ⟨S512x512, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x1x8x1, .f32⟩
  | .hbm, ⟨28, _⟩ => ⟨S8x64x1x64, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S512x512, .f32⟩
  | .hbm, ⟨33, _⟩ => ⟨S512x1024, .f32⟩
  | .hbm, ⟨34, _⟩ => ⟨S512x1024, .bf16⟩
  | .hbm, ⟨35, _⟩ => ⟨S1024, .f32⟩
  | .hbm, ⟨36, _⟩ => ⟨S1x1024, .f32⟩
  | .hbm, ⟨37, _⟩ => ⟨S1x512, .f32⟩
  | .hbm, ⟨38, _⟩ => ⟨S4x8192x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x1024, .bf16⟩
  | .local _ .vmem, ⟨5, _⟩ => ⟨S1x1024, .f32⟩
  | .local _ .vmem, ⟨6, _⟩ => ⟨S1x512, .f32⟩
  | .local _ .vmem, ⟨7, _⟩ => ⟨S1x2048x512, .bf16⟩
  | .local _ .vmem, ⟨8, _⟩ => ⟨S1x2048x512, .bf16⟩
  | .local _ .vmem, ⟨9, _⟩ => ⟨S1x512, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x8192x512 : Shape := ⟨3, ![4, 8192, 512]⟩
abbrev S4x8192x1536 : Shape := ⟨3, ![4, 8192, 1536]⟩
abbrev S8x64x64 : Shape := ⟨3, ![8, 64, 64]⟩
abbrev S512 : Shape := ⟨1, ![512]⟩
abbrev S4x8192x8x64 : Shape := ⟨4, ![4, 8192, 8, 64]⟩
abbrev S8x64x4x8192 : Shape := ⟨4, ![8, 64, 4, 8192]⟩
abbrev S1x1x512 : Shape := ⟨3, ![1, 1, 512]⟩
abbrev S_ : Shape := ⟨0, ![]⟩
abbrev S8192 : Shape := ⟨1, ![8192]⟩
abbrev S1x8192x1 : Shape := ⟨3, ![1, 8192, 1]⟩
abbrev S4x512 : Shape := ⟨2, ![4, 512]⟩
abbrev S4x1x512 : Shape := ⟨3, ![4, 1, 512]⟩

abbrev nBuf : Space → Nat
  | .hbm => 138
  | .vmem => 0
  | .smem => 0
  | _ => 0

abbrev hbmTy0_0 (i : Nat) : BufTy := match i % 128 with
  | 0 => ⟨S4x8192x512, .bf16⟩
  | 1 => ⟨S4x8192x1536, .bf16⟩
  | 2 => ⟨S8x64x64, .f32⟩
  | 3 => ⟨S512, .f32⟩
  | 4 => ⟨S8x64x64, .f32⟩
  | 5 => ⟨S512, .f32⟩
  | 6 => ⟨S512, .f32⟩
  | 7 => ⟨S4x8192x512, .f32⟩
  | 8 => ⟨S4x8192x8x64, .f32⟩
  | 9 => ⟨S8x64x4x8192, .f32⟩
  | 10 => ⟨S4x8192x8x64, .f32⟩
  | 11 => ⟨S4x8192x512, .f32⟩
  | 12 => ⟨S1x1x512, .f32⟩
  | 13 => ⟨S4x8192x512, .f32⟩
  | 14 => ⟨S4x8192x512, .f32⟩
  | 15 => ⟨S4x8192x512, .f32⟩
  | 16 => ⟨S4x8192x512, .f32⟩
  | 17 => ⟨S_, .f32⟩
  | 18 => ⟨S4x8192x512, .f32⟩
  | 19 => ⟨S4x8192x512, .f32⟩
  | 20 => ⟨S_, .f32⟩
  | 21 => ⟨S4x8192x512, .f32⟩
  | 22 => ⟨S4x8192x512, .f32⟩
  | 23 => ⟨S8x64x4x8192, .f32⟩
  | 24 => ⟨S4x8192x8x64, .f32⟩
  | 25 => ⟨S4x8192x512, .f32⟩
  | 26 => ⟨S1x1x512, .f32⟩
  | 27 => ⟨S4x8192x512, .f32⟩
  | 28 => ⟨S4x8192x512, .f32⟩
  | 29 => ⟨S4x8192x512, .f32⟩
  | 30 => ⟨S4x8192x512, .f32⟩
  | 31 => ⟨S_, .f32⟩
  | 32 => ⟨S4x8192x512, .f32⟩
  | 33 => ⟨S4x8192x512, .f32⟩
  | 34 => ⟨S_, .f32⟩
  | 35 => ⟨S4x8192x512, .f32⟩
  | 36 => ⟨S4x8192x512, .f32⟩
  | 37 => ⟨S_, .f32⟩
  | 38 => ⟨S4x8192x512, .f32⟩
  | 39 => ⟨S4x8192x512, .f32⟩
  | 40 => ⟨S512, .f32⟩
  | 41 => ⟨S_, .f32⟩
  | 42 => ⟨S512, .f32⟩
  | 43 => ⟨S512, .f32⟩
  | 44 => ⟨S512, .f32⟩
  | 45 => ⟨S512, .f32⟩
  | 46 => ⟨S512, .i1⟩
  | 47 => ⟨S512, .f32⟩
  | 48 => ⟨S512, .f32⟩
  | 49 => ⟨S512, .f32⟩
  | 50 => ⟨S512, .f32⟩
  | 51 => ⟨S512, .f32⟩
  | 52 => ⟨S512, .f32⟩
  | 53 => ⟨S512, .f32⟩
  | 54 => ⟨S512, .f32⟩
  | 55 => ⟨S1x1x512, .f32⟩
  | 56 => ⟨S4x8192x512, .f32⟩
  | 57 => ⟨S4x8192x512, .f32⟩
  | 58 => ⟨S4x8192x512, .f32⟩
  | 59 => ⟨S_, .f32⟩
  | 60 => ⟨S4x8192x512, .f32⟩
  | 61 => ⟨S4x8192x512, .f32⟩
  | 62 => ⟨S4x8192x512, .f32⟩
  | 63 => ⟨S4x8192x512, .f32⟩
  | 64 => ⟨S4x8192x512, .f32⟩
  | 65 => ⟨S4x8192x512, .f32⟩
  | 66 => ⟨S4x8192x512, .f32⟩
  | 67 => ⟨S8192, .i32⟩
  | 68 => ⟨S1x8192x1, .i32⟩
  | 69 => ⟨S_, .f32⟩
  | 70 => ⟨S4x512, .f32⟩
  | 71 => ⟨S_, .f32⟩
  | 72 => ⟨S4x8192x512, .f32⟩
  | 73 => ⟨S_, .i32⟩
  | 74 => ⟨S_, .i32⟩
  | 75 => ⟨S4x8192x512, .f32⟩
  | 76 => ⟨S4x8192x512, .f32⟩
  | 77 => ⟨S1x8192x1, .i32⟩
  | 78 => ⟨S_, .i32⟩
  | 79 => ⟨S_, .i32⟩
  | 80 => ⟨S4x512, .f32⟩
  | 81 => ⟨S4x8192x512, .f32⟩
  | 82 => ⟨S_, .i32⟩
  | 83 => ⟨S_, .i1⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S4x1x512, .f32⟩
  | 95 => ⟨S4x512, .f32⟩
  | 96 => ⟨S4x512, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S4x1x512, .f32⟩
  | 106 => ⟨S4x512, .f32⟩
  | 107 => ⟨S4x512, .f32⟩
  | 108 => ⟨S_, .i32⟩
  | 109 => ⟨S1x8192x1, .i32⟩
  | 110 => ⟨S1x8192x1, .i1⟩
  | 111 => ⟨S4x1x512, .f32⟩
  | 112 => ⟨S4x8192x512, .i1⟩
  | 113 => ⟨S4x8192x512, .f32⟩
  | 114 => ⟨S4x8192x512, .f32⟩
  | 115 => ⟨S_, .i32⟩
  | 116 => ⟨S_, .i32⟩
  | 117 => ⟨S4x8192x512, .bf16⟩
  | 118 => ⟨S4x8192x512, .f32⟩
  | 119 => ⟨S4x8192x512, .f32⟩
  | 120 => ⟨S4x8192x512, .f32⟩
  | 121 => ⟨S_, .f32⟩
  | 122 => ⟨S4x8192x512, .f32⟩
  | 123 => ⟨S4x8192x512, .f32⟩
  | 124 => ⟨S4x8192x512, .f32⟩
  | 125 => ⟨S_, .f32⟩
  | 126 => ⟨S4x8192x512, .f32⟩
  | 127 => ⟨S4x8192x512, .f32⟩
  | _ => ⟨S4x8192x512, .bf16⟩

abbrev hbmTy0_1 (i : Nat) : BufTy := match i % 128 with
  | 0 => ⟨S4x8192x512, .f32⟩
  | 1 => ⟨S_, .f32⟩
  | 2 => ⟨S4x8192x512, .f32⟩
  | 3 => ⟨S4x8192x512, .f32⟩
  | 4 => ⟨S_, .f32⟩
  | 5 => ⟨S4x8192x512, .f32⟩
  | 6 => ⟨S4x8192x512, .f32⟩
  | 7 => ⟨S4x8192x512, .f32⟩
  | 8 => ⟨S4x8192x512, .f32⟩
  | 9 => ⟨S4x8192x512, .bf16⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_c : Ref sig .tc := ⟨.hbm, 73, rfl⟩
abbrev main_c_7 : Ref sig .tc := ⟨.hbm, 74, rfl⟩
abbrev main_v45_0 : Ref sig .tc := ⟨.hbm, 75, rfl⟩
abbrev main_v45_1 : Ref sig .tc := ⟨.hbm, 76, rfl⟩
abbrev main_v45_2 : Ref sig .tc := ⟨.hbm, 77, rfl⟩
abbrev main_v45_3 : Ref sig .tc := ⟨.hbm, 78, rfl⟩
abbrev main_v45_4 : Ref sig .tc := ⟨.hbm, 79, rfl⟩
abbrev main_v45_5 : Ref sig .tc := ⟨.hbm, 80, rfl⟩
abbrev main_v45_6 : Ref sig .tc := ⟨.hbm, 81, rfl⟩
abbrev main_while0c_c_18 : Ref sig .tc := ⟨.hbm, 82, rfl⟩
abbrev main_while0c_v63 : Ref sig .tc := ⟨.hbm, 83, rfl⟩
abbrev main_while0b_c_18 : Ref sig .tc := ⟨.hbm, 84, rfl⟩
abbrev main_while0b_v63 : Ref sig .tc := ⟨.hbm, 85, rfl⟩
abbrev main_while0b_call1_c : Ref sig .tc := ⟨.hbm, 86, rfl⟩
abbrev main_while0b_call1_v0 : Ref sig .tc := ⟨.hbm, 87, rfl⟩
abbrev main_while0b_call1_v1 : Ref sig .tc := ⟨.hbm, 88, rfl⟩
abbrev main_while0b_call1_c_0 : Ref sig .tc := ⟨.hbm, 89, rfl⟩
abbrev main_while0b_call1_v2 : Ref sig .tc := ⟨.hbm, 90, rfl⟩
abbrev main_while0b_call1_v3 : Ref sig .tc := ⟨.hbm, 91, rfl⟩
abbrev main_while0b_call1_c_1 : Ref sig .tc := ⟨.hbm, 92, rfl⟩
abbrev main_while0b_call1_c_2 : Ref sig .tc := ⟨.hbm, 93, rfl⟩
abbrev main_while0b_call1_v4 : Ref sig .tc := ⟨.hbm, 94, rfl⟩
abbrev main_while0b_v64 : Ref sig .tc := ⟨.hbm, 95, rfl⟩
abbrev main_while0b_v65 : Ref sig .tc := ⟨.hbm, 96, rfl⟩
abbrev main_while0b_call2_c : Ref sig .tc := ⟨.hbm, 97, rfl⟩
abbrev main_while0b_call2_v0 : Ref sig .tc := ⟨.hbm, 98, rfl⟩
abbrev main_while0b_call2_v1 : Ref sig .tc := ⟨.hbm, 99, rfl⟩
abbrev main_while0b_call2_c_0 : Ref sig .tc := ⟨.hbm, 100, rfl⟩
abbrev main_while0b_call2_v2 : Ref sig .tc := ⟨.hbm, 101, rfl⟩
abbrev main_while0b_call2_v3 : Ref sig .tc := ⟨.hbm, 102, rfl⟩
abbrev main_while0b_call2_c_1 : Ref sig .tc := ⟨.hbm, 103, rfl⟩
abbrev main_while0b_call2_c_2 : Ref sig .tc := ⟨.hbm, 104, rfl⟩
abbrev main_while0b_call2_v4 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_call3_v0 : Ref sig .tc := ⟨.hbm, 112, rfl⟩
abbrev main_while0b_call3_v1 : Ref sig .tc := ⟨.hbm, 113, rfl⟩
abbrev main_while0b_v72 : Ref sig .tc := ⟨.hbm, 114, rfl⟩
abbrev main_while0b_c_19 : Ref sig .tc := ⟨.hbm, 115, rfl⟩
abbrev main_while0b_v73 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_cst_8 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_9 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_10 : Ref sig .tc := ⟨.hbm, 129, rfl⟩
abbrev main_v56 : Ref sig .tc := ⟨.hbm, 130, rfl⟩
abbrev main_v57 : Ref sig .tc := ⟨.hbm, 131, rfl⟩
abbrev main_cst_11 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x512 : Shape := ⟨3, ![4, 8192, 512]⟩
abbrev S4x8192x3072 : Shape := ⟨3, ![4, 8192, 3072]⟩
abbrev S4x8192x1024 : Shape := ⟨3, ![4, 8192, 1024]⟩
abbrev S4x6144 : Shape := ⟨2, ![4, 6144]⟩
abbrev S1024 : Shape := ⟨1, ![1024]⟩
abbrev S3x512x1024 : Shape := ⟨3, ![3, 512, 1024]⟩
abbrev S1024x1024 : Shape := ⟨2, ![1024, 1024]⟩
abbrev S1024x4096 : Shape := ⟨2, ![1024, 4096]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S1x512x512 : Shape := ⟨3, ![1, 512, 512]⟩
abbrev S1x512x3072 : Shape := ⟨3, ![1, 512, 3072]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 31
  | .vmem => 26
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x3072, .bf16⟩
  | .hbm, ⟨4, _⟩ => ⟨S4x8192x1024, .f32⟩
  | .hbm, ⟨5, _⟩ => ⟨S4x6144, .f32⟩
  | .hbm, ⟨6, _⟩ => ⟨S1024, .f32⟩
  | .hbm, ⟨7, _⟩ => ⟨S3x512x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S4x1024, .f32⟩
  | .hbm, ⟨13, _⟩ => ⟨S4x1x1024, .f32⟩
  | .hbm, ⟨14, _⟩ => ⟨S4x1024, .f32⟩
  | .hbm, ⟨15, _⟩ => ⟨S4x1x1024, .f32⟩
  | .hbm, ⟨16, _⟩ => ⟨S4x1024, .f32⟩
  | .hbm, ⟨17, _⟩ => ⟨S4x1x1024, .f32⟩
  | .hbm, ⟨18, _⟩ => ⟨S4x1024, .f32⟩
  | .hbm, ⟨19, _⟩ => ⟨S4x1x1024, .f32⟩
  | .hbm, ⟨20, _⟩ => ⟨S4x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S1x1024, .f32⟩
  | .hbm, ⟨25, _⟩ => ⟨S3x512x1024, .bf16⟩
  | .hbm, ⟨26, _⟩ => ⟨S1024x1024, .bf16⟩
  | .hbm, ⟨27, _⟩ => ⟨S1024x4096, .bf16⟩
  | .hbm, ⟨28, _⟩ => ⟨S4096x1024, .bf16⟩
  | .hbm, ⟨29, _⟩ => ⟨S1x1024, .f32⟩
  | .hbm, ⟨30, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x3072, .bf16⟩
  | .local _ .vmem, ⟨7, _⟩ => ⟨S1x512x3072, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S3x512x1024, .bf16⟩
  | .local _ .vmem, ⟨20, _⟩ => ⟨S1024x1024, .bf16⟩
  | .local _ .vmem, ⟨21, _⟩ => ⟨S1024x4096, .bf16⟩
  | .local _ .vmem, ⟨22, _⟩ => ⟨S4096x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x8192x512 : Shape := ⟨3, ![4, 8192, 512]⟩
abbrev S4x8192x3072 : Shape := ⟨3, ![4, 8192, 3072]⟩
abbrev S4x8192x1024 : Shape := ⟨3, ![4, 8192, 1024]⟩
abbrev S4x6144 : Shape := ⟨2, ![4, 6144]⟩
abbrev S1024 : Shape := ⟨1, ![1024]⟩
abbrev S3x512x1024 : Shape := ⟨3, ![3, 512, 1024]⟩
abbrev S1024x1024 : Shape := ⟨2, ![1024, 1024]⟩
abbrev S1024x4096 : Shape := ⟨2, ![1024, 4096]⟩
abbrev S4096x1024 : Shape := ⟨2, ![4096, 1024]⟩
abbrev S4x1x6144 : Shape := ⟨3, ![4, 1, 6144]⟩
abbrev S4x1x1024 : Shape := ⟨3, ![4, 1, 1024]⟩
abbrev S4x8192x3x1024 : Shape := ⟨4, ![4, 8192, 3, 1024]⟩
abbrev S_ : Shape := ⟨0, ![]⟩
abbrev S4x8192x1x1024 : Shape := ⟨4, ![4, 8192, 1, 1024]⟩
abbrev S1x512x1024 : Shape := ⟨3, ![1, 512, 1024]⟩
abbrev S512x1024 : Shape := ⟨2, ![512, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x3072, .bf16⟩
  | .hbm, ⟨4, _⟩ => ⟨S4x8192x1024, .f32⟩
  | .hbm, ⟨5, _⟩ => ⟨S4x6144, .f32⟩
  | .hbm, ⟨6, _⟩ => ⟨S1024, .f32⟩
  | .hbm, ⟨7, _⟩ => ⟨S3x512x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x8192x3072, .f32⟩
  | .hbm, ⟨20, _⟩ => ⟨S4x8192x3x1024, .f32⟩
  | .hbm, ⟨21, _⟩ => ⟨S4x8192x3x1024, .f32⟩
  | .hbm, ⟨22, _⟩ => ⟨S4x8192x3x1024, .f32⟩
  | .hbm, ⟨23, _⟩ => ⟨S_, .f32⟩
  | .hbm, ⟨24, _⟩ => ⟨S4x8192x3x1024, .f32⟩
  | .hbm, ⟨25, _⟩ => ⟨S4x8192x3x1024, .f32⟩
  | .hbm, ⟨26, _⟩ => ⟨S_, .f32⟩
  | .hbm, ⟨27, _⟩ => ⟨S4x8192x3x1024, .f32⟩
  | .hbm, ⟨28, _⟩ => ⟨S4x8192x3x1024, .f32⟩
  | .hbm, ⟨29, _⟩ => ⟨S4x8192x1x1024, .f32⟩
  | .hbm, ⟨30, _⟩ => ⟨S4x8192x1024, .f32⟩
  | .hbm, ⟨31, _⟩ => ⟨S4x8192x512, .f32⟩
  | .hbm, ⟨32, _⟩ => ⟨S1x512x1024, .f32⟩
  | .hbm, ⟨33, _⟩ => ⟨S512x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S4x8192x1x1024, .f32⟩
  | .hbm, ⟨40, _⟩ => ⟨S4x8192x1024, .f32⟩
  | .hbm, ⟨41, _⟩ => ⟨S4x8192x512, .f32⟩
  | .hbm, ⟨42, _⟩ => ⟨S1x512x1024, .f32⟩
  | .hbm, ⟨43, _⟩ => ⟨S512x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1x1024, .f32⟩
  | .hbm, ⟨48, _⟩ => ⟨S4x8192x1024, .f32⟩
  | .hbm, ⟨49, _⟩ => ⟨S4x8192x512, .f32⟩
  | .hbm, ⟨50, _⟩ => ⟨S1x512x1024, .f32⟩
  | .hbm, ⟨51, _⟩ => ⟨S512x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S_, .f32⟩
  | .hbm, ⟨61, _⟩ => ⟨S4x8192, .f32⟩
  | .hbm, ⟨62, _⟩ => ⟨S4x8192x1, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S4x8192x1, .f32⟩
  | .hbm, ⟨70, _⟩ => ⟨S4x8192x1024, .f32⟩
  | .hbm, ⟨71, _⟩ => ⟨S4x8192x1024, .f32⟩
  | .hbm, ⟨72, _⟩ => ⟨S1x1x1024, .f32⟩
  | .hbm, ⟨73, _⟩ => ⟨S4x8192x1024, .f32⟩
  | .hbm, ⟨74, _⟩ => ⟨S4x8192x1024, .f32⟩
  | .hbm, ⟨75, _⟩ => ⟨S_, .f32⟩
  | .hbm, ⟨76, _⟩ => ⟨S4x1x1024, .f32⟩
  | .hbm, ⟨77, _⟩ => ⟨S4x1x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x4096, .f32⟩
  | .hbm, ⟨83, _⟩ => ⟨S_, .f32⟩
  | .hbm, ⟨84, _⟩ => ⟨S4x8192x4096, .f32⟩
  | .hbm, ⟨85, _⟩ => ⟨S4x8192x4096, .f32⟩
  | .hbm, ⟨86, _⟩ => ⟨S4x8192x4096, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S_, .f32⟩
  | .hbm, ⟨93, _⟩ => ⟨S4x8192, .f32⟩
  | .hbm, ⟨94, _⟩ => ⟨S4x8192x1, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S_, .f32⟩
  | .hbm, ⟨99, _⟩ => ⟨S4x8192x1, .f32⟩
  | .hbm, ⟨100, _⟩ => ⟨S4x8192x1, .f32⟩
  | .hbm, ⟨101, _⟩ => ⟨S4x8192x1, .f32⟩
  | .hbm, ⟨102, _⟩ => ⟨S4x8192x1024, .f32⟩
  | .hbm, ⟨103, _⟩ => ⟨S4x8192x1024, .f32⟩
  | .hbm, ⟨104, _⟩ => ⟨S1x1x1024, .f32⟩
  | .hbm, ⟨105, _⟩ => ⟨S4x8192x1024, .f32⟩
  | .hbm, ⟨106, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call0_cst : Ref sig .tc := ⟨.hbm, 83, rfl⟩
abbrev main_call0_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_6 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_cst_8 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6144 : Shape := ⟨2, ![4, 6144]⟩
abbrev S1024 : Shape := ⟨1, ![1024]⟩
abbrev S1024x7696 : Shape := ⟨2, ![1024, 7696]⟩
abbrev S4x1536 : Shape := ⟨2, ![4, 1536]⟩
abbrev S4x1024 : Shape := ⟨2, ![4, 1024]⟩
abbrev S4x512 : Shape := ⟨2, ![4, 512]⟩
abbrev S512 : Shape := ⟨1, ![512]⟩
abbrev S4x1x1024 : Shape := ⟨3, ![4, 1, 1024]⟩
abbrev S1024x4 : Shape := ⟨2, ![1024, 4]⟩
abbrev S1024x8 : Shape := ⟨2, ![1024, 8]⟩
abbrev S1024x16 : Shape := ⟨2, ![1024, 16]⟩
abbrev S1024x512 : Shape := ⟨2, ![1024, 512]⟩
abbrev S1024x256 : Shape := ⟨2, ![1024, 256]⟩
abbrev S1024x3072 : Shape := ⟨2, ![1024, 3072]⟩
abbrev S_ : Shape := ⟨0, ![]⟩
abbrev S1024x128 : Shape := ⟨2, ![1024, 128]⟩
abbrev S1024x7808 : Shape := ⟨2, ![1024, 7808]⟩
abbrev S4x3072 : Shape := ⟨2, ![4, 3072]⟩
abbrev S1536 : Shape := ⟨1, ![1536]⟩
abbrev S3072 : Shape := ⟨1, ![3072]⟩
abbrev S1x3072 : Shape := ⟨2, ![1, 3072]⟩
abbrev S1x1024 : Shape := ⟨2, ![1, 1024]⟩
abbrev S4x8192x1536 : Shape := ⟨3, ![4, 8192, 1536]⟩
abbrev S4x8192x512 : Shape := ⟨3, ![4, 8192, 512]⟩
abbrev S4x8192x3072 : Shape := ⟨3, ![4, 8192, 3072]⟩
abbrev S4x8192x128 : Shape := ⟨3, ![4, 8192, 128]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x512 : Shape := ⟨3, ![1, 512, 512]⟩
abbrev S1x512x3072 : Shape := ⟨3, ![1, 512, 3072]⟩
abbrev S1x512x128 : Shape := ⟨3, ![1, 512, 128]⟩
abbrev S6x8x512 : Shape := ⟨3, ![6, 8, 512]⟩
abbrev S8x512 : Shape := ⟨2, ![8, 512]⟩
abbrev S512x1024 : Shape := ⟨2, ![512, 1024]⟩
abbrev S512x1 : Shape := ⟨2, ![512, 1]⟩
abbrev S512x512 : Shape := ⟨2, ![512, 512]⟩
abbrev S1x8x512 : Shape := ⟨3, ![1, 8, 512]⟩
abbrev S1x512 : Shape := ⟨2, ![1, 512]⟩
abbrev S504x512 : Shape := ⟨2, ![504, 512]⟩
abbrev S512x128 : Shape := ⟨2, ![512, 128]⟩

abbrev nBuf : Space → Nat
  | .hbm => 53
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x7696, .f32⟩
  | .hbm, ⟨4, _⟩ => ⟨S4x1536, .f32⟩
  | .hbm, ⟨5, _⟩ => ⟨S4x1024, .f32⟩
  | .hbm, ⟨6, _⟩ => ⟨S1024, .f32⟩
  | .hbm, ⟨7, _⟩ => ⟨S4x512, .f32⟩
  | .hbm, ⟨8, _⟩ => ⟨S512, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S1024x4, .f32⟩
  | .hbm, ⟨22, _⟩ => ⟨S1024x4, .f32⟩
  | .hbm, ⟨23, _⟩ => ⟨S1024x8, .f32⟩
  | .hbm, ⟨24, _⟩ => ⟨S1024x16, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S1024x256, .f32⟩
  | .hbm, ⟨30, _⟩ => ⟨S1024x256, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x3072, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x7808, .f32⟩
  | .hbm, ⟨40, _⟩ => ⟨S1024x7808, .bf16⟩
  | .hbm, ⟨41, _⟩ => ⟨S4x3072, .f32⟩
  | .hbm, ⟨42, _⟩ => ⟨S_, .f32⟩
  | .hbm, ⟨43, _⟩ => ⟨S1536, .f32⟩
  | .hbm, ⟨44, _⟩ => ⟨S3072, .f32⟩
  | .hbm, ⟨45, _⟩ => ⟨S1x3072, .f32⟩
  | .hbm, ⟨46, _⟩ => ⟨S1x1024, .f32⟩
  | .hbm, ⟨47, _⟩ => ⟨S4x8192x1536, .bf16⟩
  | .hbm, ⟨48, _⟩ => ⟨S4x8192x1024, .bf16⟩
  | .hbm, ⟨49, _⟩ => ⟨S4x8192x512, .bf16⟩
  | .hbm, ⟨50, _⟩ => ⟨S4x8192x1536, .bf16⟩
  | .hbm, ⟨51, _⟩ => ⟨S4x8192x3072, .bf16⟩
  | .hbm, ⟨52, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x7808, .bf16⟩
  | .local _ .vmem, ⟨8, _⟩ => ⟨S4x3072, .f32⟩
  | .local _ .vmem, ⟨9, _⟩ => ⟨S1x3072, .f32⟩
  | .local _ .vmem, ⟨10, _⟩ => ⟨S1x512x1536, .bf16⟩
  | .local _ .vmem, ⟨11, _⟩ => ⟨S1x512x1536, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x1536, .bf16⟩
  | .local _ .vmem, ⟨17, _⟩ => ⟨S1x512x1536, .bf16⟩
  | .local _ .vmem, ⟨18, _⟩ => ⟨S1x512x3072, .bf16⟩
  | .local _ .vmem, ⟨19, _⟩ => ⟨S1x512x3072, .bf16⟩
  | .local _ .vmem, ⟨20, _⟩ => ⟨S1x512x128, .f32⟩
  | .local _ .vmem, ⟨21, _⟩ => ⟨S1x512x128, .f32⟩
  | .local _ .vmem, ⟨22, _⟩ => ⟨S6x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev main_v35_4 : Ref sig .tc := ⟨.hbm, 51, rfl⟩
abbrev main_v35_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x7808 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x8192x1024 : Shape := ⟨3, ![4, 8192, 1024]⟩
abbrev S4x6144 : Shape := ⟨2, ![4, 6144]⟩
abbrev S1024 : Shape := ⟨1, ![1024]⟩
abbrev S1024x7696 : Shape := ⟨2, ![1024, 7696]⟩
abbrev S4x1536 : Shape := ⟨2, ![4, 1536]⟩
abbrev S4x1024 : Shape := ⟨2, ![4, 1024]⟩
abbrev S4x512 : Shape := ⟨2, ![4, 512]⟩
abbrev S512 : Shape := ⟨1, ![512]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7696 : Shape := ⟨3, ![4, 8192, 7696]⟩
abbrev S4x8192x1536 : Shape := ⟨3, ![4, 8192, 1536]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x512 : Shape := ⟨3, ![4, 8192, 512]⟩
abbrev S4x8195x1024 : Shape := ⟨3, ![4, 8195, 1024]⟩
abbrev S1x1024 : Shape := ⟨2, ![1, 1024]⟩
abbrev S4x8195x512 : Shape := ⟨3, ![4, 8195, 512]⟩
abbrev S1x512 : Shape := ⟨2, ![1, 512]⟩
abbrev S1x1x512 : Shape := ⟨3, ![1, 1, 512]⟩
abbrev S4x8192x8 : Shape := ⟨3, ![4, 8192, 8]⟩
abbrev S4x8192x16 : Shape := ⟨3, ![4, 8192, 16]⟩
abbrev S4x8192x128 : Shape := ⟨3, ![4, 8192, 128]⟩
abbrev S4x8192x3072 : Shape := ⟨3, ![4, 8192, 3072]⟩

abbrev nBuf : Space → Nat
  | .hbm => 182
  | .vmem => 0
  | .smem => 0
  | _ => 0

abbrev hbmTy0_0 (i : Nat) : BufTy := match i % 128 with
  | 0 => ⟨S4x8192x1024, .f32⟩
  | 1 => ⟨S4x6144, .f32⟩
  | 2 => ⟨S1024, .f32⟩
  | 3 => ⟨S1024x7696, .f32⟩
  | 4 => ⟨S4x1536, .f32⟩
  | 5 => ⟨S4x1024, .f32⟩
  | 6 => ⟨S1024, .f32⟩
  | 7 => ⟨S4x512, .f32⟩
  | 8 => ⟨S512, .f32⟩
  | 9 => ⟨S4x1024, .f32⟩
  | 10 => ⟨S4x1x1024, .f32⟩
  | 11 => ⟨S4x1024, .f32⟩
  | 12 => ⟨S4x1x1024, .f32⟩
  | 13 => ⟨S4x8192x1024, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S_, .f32⟩
  | 30 => ⟨S4x1x1024, .f32⟩
  | 31 => ⟨S4x1x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S4x8192x7696, .f32⟩
  | 37 => ⟨S4x8192x1536, .f32⟩
  | 38 => ⟨S_, .i32⟩
  | 39 => ⟨S_, .f32⟩
  | 40 => ⟨S4x8195x1536, .f32⟩
  | 41 => ⟨S4x8192x1536, .f32⟩
  | 42 => ⟨S1x1536, .f32⟩
  | 43 => ⟨S1536, .f32⟩
  | 44 => ⟨S1x1x1536, .f32⟩
  | 45 => ⟨S4x8192x1536, .f32⟩
  | 46 => ⟨S4x8192x1536, .f32⟩
  | 47 => ⟨S_, .f32⟩
  | 48 => ⟨S4x8192x1536, .f32⟩
  | 49 => ⟨S4x8192x1536, .f32⟩
  | 50 => ⟨S4x8192x1536, .f32⟩
  | 51 => ⟨S1x1536, .f32⟩
  | 52 => ⟨S1536, .f32⟩
  | 53 => ⟨S1x1x1536, .f32⟩
  | 54 => ⟨S4x8192x1536, .f32⟩
  | 55 => ⟨S4x8192x1536, .f32⟩
  | 56 => ⟨S4x8192x1536, .f32⟩
  | 57 => ⟨S4x8192x1536, .f32⟩
  | 58 => ⟨S1x1536, .f32⟩
  | 59 => ⟨S1536, .f32⟩
  | 60 => ⟨S1x1x1536, .f32⟩
  | 61 => ⟨S4x8192x1536, .f32⟩
  | 62 => ⟨S4x8192x1536, .f32⟩
  | 63 => ⟨S4x8192x1536, .f32⟩
  | 64 => ⟨S4x8192x1536, .f32⟩
  | 65 => ⟨S1x1536, .f32⟩
  | 66 => ⟨S1536, .f32⟩
  | 67 => ⟨S1x1x1536, .f32⟩
  | 68 => ⟨S4x8192x1536, .f32⟩
  | 69 => ⟨S4x8192x1536, .f32⟩
  | 70 => ⟨S4x8192x1536, .f32⟩
  | 71 => ⟨S4x8192x1536, .f32⟩
  | 72 => ⟨S4x8192x1536, .f32⟩
  | 73 => ⟨S_, .f32⟩
  | 74 => ⟨S4x8192x1536, .f32⟩
  | 75 => ⟨S4x8192x1536, .f32⟩
  | 76 => ⟨S_, .f32⟩
  | 77 => ⟨S4x8192x1536, .f32⟩
  | 78 => ⟨S4x8192x1536, .f32⟩
  | 79 => ⟨S4x8192x1536, .f32⟩
  | 80 => ⟨S4x8192x512, .f32⟩
  | 81 => ⟨S4x8192x512, .f32⟩
  | 82 => ⟨S4x8192x1024, .f32⟩
  | 83 => ⟨S_, .i32⟩
  | 84 => ⟨S_, .f32⟩
  | 85 => ⟨S4x8195x1024, .f32⟩
  | 86 => ⟨S4x8192x1024, .f32⟩
  | 87 => ⟨S1x1024, .f32⟩
  | 88 => ⟨S1024, .f32⟩
  | 89 => ⟨S1x1x1024, .f32⟩
  | 90 => ⟨S4x8192x1024, .f32⟩
  | 91 => ⟨S4x8192x1024, .f32⟩
  | 92 => ⟨S_, .f32⟩
  | 93 => ⟨S4x8192x1024, .f32⟩
  | 94 => ⟨S4x8192x1024, .f32⟩
  | 95 => ⟨S4x8192x1024, .f32⟩
  | 96 => ⟨S1x1024, .f32⟩
  | 97 => ⟨S1024, .f32⟩
  | 98 => ⟨S1x1x1024, .f32⟩
  | 99 => ⟨S4x8192x1024, .f32⟩
  | 100 => ⟨S4x8192x1024, .f32⟩
  | 101 => ⟨S4x8192x1024, .f32⟩
  | 102 => ⟨S4x8192x1024, .f32⟩
  | 103 => ⟨S1x1024, .f32⟩
  | 104 => ⟨S1024, .f32⟩
  | 105 => ⟨S1x1x1024, .f32⟩
  | 106 => ⟨S4x8192x1024, .f32⟩
  | 107 => ⟨S4x8192x1024, .f32⟩
  | 108 => ⟨S4x8192x1024, .f32⟩
  | 109 => ⟨S4x8192x1024, .f32⟩
  | 110 => ⟨S1x1024, .f32⟩
  | 111 => ⟨S1024, .f32⟩
  | 112 => ⟨S1x1x1024, .f32⟩
  | 113 => ⟨S4x8192x1024, .f32⟩
  | 114 => ⟨S4x8192x1024, .f32⟩
  | 115 => ⟨S4x8192x1024, .f32⟩
  | 116 => ⟨S1x1x1024, .f32⟩
  | 117 => ⟨S4x8192x1024, .f32⟩
  | 118 => ⟨S4x8192x1024, .f32⟩
  | 119 => ⟨S4x8192x1024, .f32⟩
  | 120 => ⟨S4x8192x1024, .f32⟩
  | 121 => ⟨S_, .f32⟩
  | 122 => ⟨S4x8192x1024, .f32⟩
  | 123 => ⟨S4x8192x1024, .f32⟩
  | 124 => ⟨S_, .f32⟩
  | 125 => ⟨S4x8192x1024, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S4x8192x512, .f32⟩
  | 1 => ⟨S_, .i32⟩
  | 2 => ⟨S_, .f32⟩
  | 3 => ⟨S4x8195x512, .f32⟩
  | 4 => ⟨S4x8192x512, .f32⟩
  | 5 => ⟨S1x512, .f32⟩
  | 6 => ⟨S512, .f32⟩
  | 7 => ⟨S1x1x512, .f32⟩
  | 8 => ⟨S4x8192x512, .f32⟩
  | 9 => ⟨S4x8192x512, .f32⟩
  | 10 => ⟨S_, .f32⟩
  | 11 => ⟨S4x8192x512, .f32⟩
  | 12 => ⟨S4x8192x512, .f32⟩
  | 13 => ⟨S4x8192x512, .f32⟩
  | 14 => ⟨S1x512, .f32⟩
  | 15 => ⟨S512, .f32⟩
  | 16 => ⟨S1x1x512, .f32⟩
  | 17 => ⟨S4x8192x512, .f32⟩
  | 18 => ⟨S4x8192x512, .f32⟩
  | 19 => ⟨S4x8192x512, .f32⟩
  | 20 => ⟨S4x8192x512, .f32⟩
  | 21 => ⟨S1x512, .f32⟩
  | 22 => ⟨S512, .f32⟩
  | 23 => ⟨S1x1x512, .f32⟩
  | 24 => ⟨S4x8192x512, .f32⟩
  | 25 => ⟨S4x8192x512, .f32⟩
  | 26 => ⟨S4x8192x512, .f32⟩
  | 27 => ⟨S4x8192x512, .f32⟩
  | 28 => ⟨S1x512, .f32⟩
  | 29 => ⟨S512, .f32⟩
  | 30 => ⟨S1x1x512, .f32⟩
  | 31 => ⟨S4x8192x512, .f32⟩
  | 32 => ⟨S4x8192x512, .f32⟩
  | 33 => ⟨S4x8192x512, .f32⟩
  | 34 => ⟨S1x1x512, .f32⟩
  | 35 => ⟨S4x8192x512, .f32⟩
  | 36 => ⟨S4x8192x512, .f32⟩
  | 37 => ⟨S4x8192x512, .f32⟩
  | 38 => ⟨S4x8192x512, .f32⟩
  | 39 => ⟨S4x8192x1024, .f32⟩
  | 40 => ⟨S4x8192x512, .f32⟩
  | 41 => ⟨S4x8192x1536, .f32⟩
  | 42 => ⟨S4x8192x8, .f32⟩
  | 43 => ⟨S4x8192x8, .f32⟩
  | 44 => ⟨S4x8192x16, .f32⟩
  | 45 => ⟨S_, .i32⟩
  | 46 => ⟨S_, .f32⟩
  | 47 => ⟨S4x8192x128, .f32⟩
  | 48 => ⟨S4x8192x1536, .bf16⟩
  | 49 => ⟨S4x8192x1024, .bf16⟩
  | 50 => ⟨S4x8192x512, .bf16⟩
  | 51 => ⟨S4x8192x1536, .bf16⟩
  | 52 => ⟨S4x8192x3072, .f32⟩
  | 53 => ⟨S4x8192x3072, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_4 : Ref sig .tc := ⟨.hbm, 83, rfl⟩
abbrev main_call2_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_5 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v92 : Ref sig .tc := ⟨.hbm, 127, rfl⟩
abbrev main_v93 : Ref sig .tc := ⟨.hbm, 128, rfl⟩
abbrev main_c_6 : Ref sig .tc := ⟨.hbm, 129, rfl⟩
abbrev main_call4_v0 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_7 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_8 : Ref sig .tc := ⟨.hbm, 173, rfl⟩
abbrev main_call5_v0 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩

abbrev nD : Nat := 1
abbrev τ : Topo := Topo.v7x

variable {F : FTy → Type} [FloatOps F]
-- ==== Kernel4.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x4x6144 : Shape := ⟨3, ![2, 4, 6144]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S2x1x6144, .f32⟩
  | .hbm, ⟨7, _⟩ => ⟨S2x8x6144, .f32⟩
  | .hbm, ⟨8, _⟩ => ⟨S2x4x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S1x4x6144 : Shape := ⟨3, ![1, 4, 6144]⟩
abbrev S2x4x6144 : Shape := ⟨3, ![2, 4, 6144]⟩

abbrev nBuf : Space → Nat
  | .hbm => 40
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x1024x6144, .f32⟩
  | .hbm, ⟨13, _⟩ => ⟨S1024x6144, .f32⟩
  | .hbm, ⟨14, _⟩ => ⟨S4x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S4x6144, .f32⟩
  | .hbm, ⟨19, _⟩ => ⟨S4x6144, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S_, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S1x1024x6144, .f32⟩
  | .hbm, ⟨30, _⟩ => ⟨S1024x6144, .f32⟩
  | .hbm, ⟨31, _⟩ => ⟨S4x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S4x6144, .f32⟩
  | .hbm, ⟨36, _⟩ => ⟨S4x6144, .f32⟩
  | .hbm, ⟨37, _⟩ => ⟨S1x4x6144, .f32⟩
  | .hbm, ⟨38, _⟩ => ⟨S1x4x6144, .f32⟩
  | .hbm, ⟨39, _⟩ => ⟨S2x4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Scan.lean ====
/-
  The scalar facts of the recurrence, over the extended reals: the sigmoid written with tanh, the gate's decay in
  [0, 1], the square root written with a reciprocal square root, and the composition law of the affine steps.
-/
module

public import Idealize.ShloMosaic.Lib.Pointwise
public import Idealize.ShloMosaic.Lib.IdealHost

@[expose] public section

noncomputable section

namespace Cert.Scan

open Idealize.ShloMosaic

/-! ## Constants -/

/-- The f32 pattern of one half. -/
theorem half_f32 : Ideal.ofBits .f32 0x3F000000#32 = ((1 / 2 : ℝ) : EReal) := by
  simp [Ideal.ofBits, Ideal.ieee, -EReal.coe_mul]; norm_num

/-- The f32 pattern of two. -/
theorem two_f32 : Ideal.ofBits .f32 0x40000000#32 = ((2 : ℝ) : EReal) := by
  simp [Ideal.ofBits, Ideal.ieee, -EReal.coe_mul]; norm_num

/-- The f32 pattern of minus eight. -/
theorem neg_eight_f32 : Ideal.ofBits .f32 0xC1000000#32 = ((-8 : ℝ) : EReal) := by
  simp [Ideal.ofBits, Ideal.ieee, -EReal.coe_mul, -EReal.coe_neg]; norm_num

/-! ## The sigmoid -/

/-- One half plus half of tanh of half the argument is the logistic function, at the infinities too. -/
theorem half_tanh (x : EReal) :
    ((1 / 2 : ℝ) : EReal) + ((1 / 2 : ℝ) : EReal) * Ideal.tanh (((1 / 2 : ℝ) : EReal) * x)
      = Ideal.div 1 (1 + Ideal.exp (-x)) := by
  induction x with
  | bot =>
    rw [EReal.coe_mul_bot_of_pos (by norm_num), EReal.neg_bot]
    rw [show Ideal.tanh ⊥ = -1 from rfl, show Ideal.exp ⊤ = ⊤ from rfl]
    unfold Ideal.div
    have h1 : (1 : EReal) + ⊤ = ⊤ := by
      rw [show (1 : EReal) = ((1 : ℝ) : EReal) by norm_cast]; exact EReal.coe_add_top 1
    rw [h1, if_neg (by simp), EReal.inv_top, mul_zero]
    rw [show (-1 : EReal) = ((-1 : ℝ) : EReal) from rfl, ← EReal.coe_mul, ← EReal.coe_add]
    norm_num
  | top =>
    rw [EReal.coe_mul_top_of_pos (by norm_num), EReal.neg_top]
    rw [show Ideal.tanh ⊤ = 1 from rfl, show Ideal.exp ⊥ = 0 from rfl]
    unfold Ideal.div
    rw [add_zero, if_neg (by simp), mul_one, ← EReal.coe_add, show (1 : EReal) = ((1 : ℝ) : EReal) by norm_cast,
      ← EReal.coe_inv, ← EReal.coe_mul]
    norm_num
  | coe x =>
    rw [← EReal.coe_mul, ← EReal.coe_neg]
    rw [show Ideal.tanh ((1 / 2 * x : ℝ) : EReal) = ((Real.tanh (1 / 2 * x) : ℝ) : EReal) from rfl,
      show Ideal.exp ((-x : ℝ) : EReal) = ((Real.exp (-x) : ℝ) : EReal) from rfl]
    unfold Ideal.div
    have he : (0 : ℝ) < Real.exp (-x) := Real.exp_pos _
    have h1 : (1 : EReal) + ((Real.exp (-x) : ℝ) : EReal) = ((1 + Real.exp (-x) : ℝ) : EReal) := by norm_cast
    rw [h1, if_neg (by rw [← EReal.coe_zero]; exact fun h => by have := EReal.coe_injective h; linarith), one_mul,
      ← EReal.coe_inv, ← EReal.coe_mul, ← EReal.coe_add]
    congr 1
    have hx : Real.exp (-x) = Real.exp (-(1 / 2 * x)) * Real.exp (-(1 / 2 * x)) := by
      rw [← Real.exp_add]; congr 1; ring
    rw [hx, Real.tanh_eq_sinh_div_cosh, Real.sinh_eq, Real.cosh_eq]
    have hp : (0 : ℝ) < Real.exp (1 / 2 * x) := Real.exp_pos _
    have hq : (0 : ℝ) < Real.exp (-(1 / 2 * x)) := Real.exp_pos _
    have hpq : Real.exp (1 / 2 * x) * Real.exp (-(1 / 2 * x)) = 1 := by rw [← Real.exp_add]; simp
    generalize Real.exp (1 / 2 * x) = p at *
    generalize Real.exp (-(1 / 2 * x)) = q at *
    field_simp
    linear_combination (2 * q) * hpq

/-- The logistic function is not negative. -/
theorem logistic_nonneg (x : EReal) : 0 ≤ Ideal.div 1 (1 + Ideal.exp (-x)) := by
  have he : (0 : EReal) ≤ Ideal.exp (-x) := by
    generalize -x = y
    induction y with
    | bot => exact le_rfl
    | top => exact le_top
    | coe y => exact EReal.coe_nonneg.mpr (Real.exp_pos y).le
  have h0 : (0 : EReal) < 1 + Ideal.exp (-x) :=
    lt_of_lt_of_le (show (0 : EReal) < 1 by norm_num) (by simpa using add_le_add_right he 1)
  unfold Ideal.div
  rw [if_neg h0.ne', one_mul]
  exact EReal.inv_nonneg_of_nonneg h0.le

/-! ## The softplus -/

/-- `log (1 + e)` of a number that is not negative is not negative. -/
theorem log1p_exp_nonneg (y : EReal) : 0 ≤ Ideal.log1p (Ideal.exp y) := by
  induction y with
  | bot =>
    show 0 ≤ Ideal.log (1 + 0)
    rw [add_zero, show (1 : EReal) = ((1 : ℝ) : EReal) by norm_cast]
    show 0 ≤ (if (1 : ℝ) ≤ 0 then ⊥ else ((Real.log 1 : ℝ) : EReal))
    rw [if_neg (by norm_num), Real.log_one]
    exact le_rfl
  | top =>
    show 0 ≤ Ideal.log (1 + ⊤)
    rw [show (1 : EReal) = ((1 : ℝ) : EReal) by norm_cast, EReal.coe_add_top]
    exact le_top
  | coe y =>
    show 0 ≤ Ideal.log (1 + ((Real.exp y : ℝ) : EReal))
    rw [show (1 : EReal) + ((Real.exp y : ℝ) : EReal) = ((1 + Real.exp y : ℝ) : EReal) by norm_cast]
    have hp := Real.exp_pos y
    show 0 ≤ (if 1 + Real.exp y ≤ 0 then ⊥ else ((Real.log (1 + Real.exp y) : ℝ) : EReal))
    rw [if_neg (by linarith)]
    exact EReal.coe_nonneg.mpr (Real.log_nonneg (by linarith))

/-- Softplus, as both programs write it. -/
def softplus (y : EReal) : EReal := max y 0 + Ideal.log1p (Ideal.exp (-(max y (-y))))

theorem softplus_nonneg (y : EReal) : 0 ≤ softplus y :=
  add_nonneg (le_max_right _ _) (log1p_exp_nonneg _)

/-- The decay's logarithm is not positive. -/
theorem decay_nonpos (x y : EReal) :
    ((-8 : ℝ) : EReal) * Ideal.div 1 (1 + Ideal.exp (-x)) * softplus y ≤ 0 := by
  have h8 : ((-8 : ℝ) : EReal) * Ideal.div 1 (1 + Ideal.exp (-x)) ≤ 0 :=
    EReal.mul_nonpos_iff.mpr (Or.inr ⟨EReal.coe_nonpos.mpr (by norm_num), logistic_nonneg x⟩)
  exact EReal.mul_nonpos_iff.mpr (Or.inr ⟨h8, softplus_nonneg y⟩)

/-! ## The decay and the input's scale -/

/-- The exponential of a number that is not positive is a real in [0, 1]. -/
theorem exp_real {L : EReal} (h : L ≤ 0) : ∃ r : ℝ, 0 ≤ r ∧ Ideal.exp L = (r : EReal) := by
  induction L with
  | bot => exact ⟨0, le_rfl, rfl⟩
  | top => exact absurd h (by simp)
  | coe r => exact ⟨Real.exp r, (Real.exp_pos r).le, rfl⟩

/-- For `L ≤ 0` the guarded `y · rsqrt y` of `y = 1 − e^L · e^L` is the root of `−(e^(2L) − 1)`. -/
theorem root_eq {L : EReal} (h : L ≤ 0) :
    (if 0 < 1 - Ideal.exp L * Ideal.exp L
      then (1 - Ideal.exp L * Ideal.exp L) * Ideal.rsqrt (1 - Ideal.exp L * Ideal.exp L) else 0)
      = Ideal.sqrt (-(Ideal.exp (((2 : ℝ) : EReal) * L) - 1)) := by
  induction L with
  | bot =>
    rw [EReal.coe_mul_bot_of_pos (by norm_num), show Ideal.exp ⊥ = 0 from rfl]
    rw [mul_zero, sub_zero, zero_sub, neg_neg, if_pos (by norm_num), show (1 : EReal) = ((1 : ℝ) : EReal) by norm_cast]
    show ((1 : ℝ) : EReal) * (if (1 : ℝ) < 0 then ⊥ else if (1 : ℝ) = 0 then ⊤ else (((Real.sqrt 1)⁻¹ : ℝ) : EReal))
      = (if (1 : ℝ) < 0 then ⊥ else ((Real.sqrt 1 : ℝ) : EReal))
    norm_num
  | top => exact absurd h (by simp)
  | coe r =>
    have hr : r ≤ 0 := EReal.coe_nonpos.mp h
    rw [← EReal.coe_mul, show Ideal.exp ((r : ℝ) : EReal) = ((Real.exp r : ℝ) : EReal) from rfl,
      show Ideal.exp ((2 * r : ℝ) : EReal) = ((Real.exp (2 * r) : ℝ) : EReal) from rfl]
    have e2 : Real.exp (2 * r) = Real.exp r * Real.exp r := by rw [← Real.exp_add]; congr 1; ring
    have e1 : Real.exp r ≤ 1 := Real.exp_le_one_iff.mpr hr
    have e0 := Real.exp_pos r
    rw [e2]
    generalize Real.exp r = e at *
    have hy : (1 : EReal) - ((e : ℝ) : EReal) * ((e : ℝ) : EReal) = ((1 - e * e : ℝ) : EReal) := by norm_cast
    have hn : -(((e * e : ℝ) : EReal) - 1) = ((1 - e * e : ℝ) : EReal) := by
      rw [show (1 - e * e : ℝ) = -(e * e - 1) by ring, EReal.coe_neg, EReal.coe_sub]; rfl
    rw [hy, hn]
    have hy0 : 0 ≤ 1 - e * e := by nlinarith
    generalize 1 - e * e = y at *
    show (if (0 : EReal) < ((y : ℝ) : EReal) then ((y : ℝ) : EReal)
        * (if y < 0 then ⊥ else if y = 0 then ⊤ else (((Real.sqrt y)⁻¹ : ℝ) : EReal)) else 0)
      = (if y < 0 then ⊥ else ((Real.sqrt y : ℝ) : EReal))
    rcases hy0.eq_or_lt with rfl | hp
    · simp
    · rw [if_pos (EReal.coe_pos.mpr hp), if_neg hp.not_gt, if_neg hp.ne', if_neg hp.not_gt, ← EReal.coe_mul]
      congr 1
      have hs := Real.sqrt_pos.mpr hp
      field_simp
      exact (Real.sq_sqrt hp.le).symm

/-! ## Affine steps -/

/-- The recurrence from rest: the state before step `t`. -/
def hseq (a u : ℕ → EReal) : ℕ → EReal
  | 0 => 0
  | t + 1 => a t * hseq a u t + u t

/-- One stage of the group scan at distance `d`: the coefficient. -/
def stA (d : ℕ) (a : ℕ → EReal) (s : ℕ) : EReal := if d ≤ s then a s * a (s - d) else a s

/-- One stage of the group scan at distance `d`: the offset. -/
def stU (d : ℕ) (a u : ℕ → EReal) (s : ℕ) : EReal := if d ≤ s then a s * u (s - d) + u s else u s

/-- The three stages (distances 1, 2, 4) over a group of eight, applied to the state before the group, give the state after
    row `s`. -/
theorem group_scan (a u h : ℕ → EReal) (ha : ∀ s, 0 ≤ a s ∧ a s ≠ ⊤) (hh : ∀ s, h (s + 1) = a s * h s + u s)
    (s : ℕ) (hs : s < 8) :
    stA 4 (stA 2 (stA 1 a)) s * h 0 + stU 4 (stA 2 (stA 1 a)) (stU 2 (stA 1 a) (stU 1 a u)) s = h (s + 1) := by
  have d : ∀ i x y, a i * (x + y) = a i * x + a i * y :=
    fun i x y => EReal.left_distrib_of_nonneg_of_ne_top (ha i).1 (ha i).2 x y
  interval_cases s <;>
    simp only [stA, stU, Nat.reduceLeDiff, ↓reduceIte, Nat.reduceSub, le_refl, zero_le, Nat.reduceAdd, hh, mul_assoc, d,
      add_assoc]

end Cert.Scan
end
-- ==== Proof.LruKernel.lean ====
module

public import proofs.«01_k».proof.Proof.Scan
public import proofs.«01_k».proof.Proof.Gen.KernelIdeal.Skeleton
public import Idealize.ShloMosaic.Lib.Pipeline.ValueKit

@[expose] public section

set_option maxRecDepth 16384

noncomputable section

namespace Cert.Lru

open Idealize.ShloMosaic Cert.KernelIdeal Cert.KernelIdeal.Gen Cert.Scan

/-- A row number within its group of eight. -/
def f8 (n : ℕ) : Fin 8 := ⟨n % 8, Nat.mod_lt _ (by norm_num)⟩

theorem sel1 {α : Type} (s : Fin 8) (x y : α) :
    Scalar.select (IntOp.cmpi CmpIPredicate.sge (BitVec.ofNat 32 s.val) 1#32) x y = if 1 ≤ s.val then x else y := by
  fin_cases s <;> rfl
theorem sel2 {α : Type} (s : Fin 8) (x y : α) :
    Scalar.select (IntOp.cmpi CmpIPredicate.sge (BitVec.ofNat 32 s.val) 2#32) x y = if 2 ≤ s.val then x else y := by
  fin_cases s <;> rfl
theorem sel4 {α : Type} (s : Fin 8) (x y : α) :
    Scalar.select (IntOp.cmpi CmpIPredicate.sge (BitVec.ofNat 32 s.val) 4#32) x y = if 4 ≤ s.val then x else y := by
  fin_cases s <;> rfl

theorem f8_self (s : Fin 8) : f8 s.val = s := Fin.ext (Nat.mod_eq_of_lt s.isLt)

/-- The row `d` above, which the rotation reads where the mask is set. -/
theorem f8_sub (s : Fin 8) (d : ℕ) (hd : d ≤ s.val) (h : (s.val + 8 - d) % 8 < 8) : (⟨(s.val + 8 - d) % 8, h⟩ : Fin 8) = f8 (s.val - d) :=
  Fin.ext (by unfold f8; show (s.val + 8 - d) % 8 = (s.val - d) % 8; omega)

theorem pay12_apply (v32 : FVec Ideal S2048x512 .f32) (v34 : FVec Ideal S1x512 .f32) (g : Fin 256) (s : Fin 8) (l : Fin 512) :
    k0_pay12 v32 v34 (ix3 g s l) = stA 1 (fun n => k0_pay10 v32 v34 (ix3 g (f8 n) l)) s.val := by
  unfold k0_pay12 k0_pay11 stA
  generalize k0_pay10 v32 v34 = x
  pointwise
  rw [sel1, f8_self]
  split_ifs with h
  · rw [f8_sub s 1 h]
  · rfl

theorem pay15_apply (v32 : FVec Ideal S2048x512 .f32) (v34 : FVec Ideal S1x512 .f32) (g : Fin 256) (s : Fin 8) (l : Fin 512) :
    k0_pay15 v32 v34 (ix3 g s l) = stA 2 (fun n => k0_pay12 v32 v34 (ix3 g (f8 n) l)) s.val := by
  unfold k0_pay15 k0_pay13 stA
  generalize k0_pay12 v32 v34 = x
  pointwise
  rw [sel2, f8_self]
  split_ifs with h
  · rw [f8_sub s 2 h]
  · rfl

theorem pay18_apply (v79 : FVec Ideal S256x8x512 .f32) (g : Fin 256) (s : Fin 8) (l : Fin 512) :
    k0_pay18 v79 k0_pay16 (ix3 g s l) = stA 4 (fun n => v79 (ix3 g (f8 n) l)) s.val := by
  unfold k0_pay18 k0_pay16 stA
  pointwise
  rw [sel4, f8_self]
  split_ifs with h
  · rw [f8_sub s 4 h]
  · rfl

theorem pay17_apply (v76 v79 : FVec Ideal S256x8x512 .f32) (g : Fin 256) (s : Fin 8) (l : Fin 512) :
    k0_pay17 v76 v79 k0_pay16 (ix3 g s l)
      = stU 4 (fun n => v79 (ix3 g (f8 n) l)) (fun n => v76 (ix3 g (f8 n) l)) s.val := by
  unfold k0_pay17 k0_pay16 stU
  pointwise
  rw [sel4, f8_self]
  split_ifs with h
  · rw [f8_sub s 4 h]
  · rfl

/-- A row of the block, from its group and its row within the group. -/
def row8 (g : Fin 256) (s : Fin 8) : Fin 2048 := ⟨g.val * 8 + s.val, by omega⟩

theorem pay10_apply (v32 : FVec Ideal S2048x512 .f32) (v34 : FVec Ideal S1x512 .f32) (g : Fin 256) (s : Fin 8) (l : Fin 512) :
    k0_pay10 v32 v34 (ix3 g s l) = Ideal.exp (v32 (ix2 (row8 g s) l) * softplus (-(v34 (ix2 0 l)))) := by
  unfold softplus row8
  pointwise [k0_pay10, k0_pay9]
  simp only [zero_sub]
  rfl

/-- The scaled input of one element, from the decay, the gate and the input. -/
def uin (a i x : EReal) : EReal := (if 0 < 1 - a * a then (1 - a * a) * Ideal.rsqrt (1 - a * a) else 0) * (i * x)

theorem stage1 (A U : FVec Ideal S256x8x512 .f32) (g : Fin 256) (s : Fin 8) (l : Fin 512) :
    select k0_pay11 (addf (mulf A (dynamicRotate 1 1#32 none U rotates_S256x8x512_d1)) U) U (ix3 g s l)
      = stU 1 (fun n => A (ix3 g (f8 n) l)) (fun n => U (ix3 g (f8 n) l)) s.val := by
  unfold k0_pay11 stU
  pointwise
  rw [sel1, f8_self]
  split_ifs with h
  · rw [f8_sub s 1 h]
  · rfl

theorem stage2 (A U : FVec Ideal S256x8x512 .f32) (g : Fin 256) (s : Fin 8) (l : Fin 512) :
    select k0_pay13 (addf (mulf A (dynamicRotate 1 2#32 none U rotates_S256x8x512_d1)) U) U (ix3 g s l)
      = stU 2 (fun n => A (ix3 g (f8 n) l)) (fun n => U (ix3 g (f8 n) l)) s.val := by
  unfold k0_pay13 stU
  pointwise
  rw [sel2, f8_self]
  split_ifs with h
  · rw [f8_sub s 2 h]
  · rfl

theorem pay14_apply (v5 v30 v32 : FVec Ideal S2048x512 .f32) (v34 : FVec Ideal S1x512 .f32) (g : Fin 256) (s : Fin 8)
    (l : Fin 512) :
    k0_pay14 v5 v30 v32 v34 (ix3 g s l)
      = stU 2 (fun n => k0_pay12 v32 v34 (ix3 g (f8 n) l))
          (fun k => stU 1 (fun n => k0_pay10 v32 v34 (ix3 g (f8 n) l))
            (fun n => uin (k0_pay10 v32 v34 (ix3 g (f8 n) l)) (v30 (ix2 (row8 g (f8 n)) l)) (v5 (ix2 (row8 g (f8 n)) l)))
            (f8 k).val) s.val := by
  unfold k0_pay14
  dsimp only
  rw [stage2]
  refine congrArg (fun U => stU 2 _ U s.val) (funext fun n => ?_)
  rw [stage1]
  refine congrArg (fun u => stU 1 _ u (f8 n).val) (funext fun k => ?_)
  unfold uin row8
  simp only [k0_pay10]
  pointwise

theorem stA_congr (d : ℕ) {a b : ℕ → EReal} (s : ℕ) (h : ∀ n ≤ s, a n = b n) : stA d a s = stA d b s := by
  unfold stA
  split_ifs
  · rw [h s le_rfl, h (s - d) (Nat.sub_le _ _)]
  · rw [h s le_rfl]

theorem stU_congr (d : ℕ) {a b u v : ℕ → EReal} (s : ℕ) (h : ∀ n ≤ s, a n = b n) (h' : ∀ n ≤ s, u n = v n) :
    stU d a u s = stU d b v s := by
  unfold stU
  split_ifs
  · rw [h s le_rfl, h' s le_rfl, h' (s - d) (Nat.sub_le _ _)]
  · rw [h' s le_rfl]

/-- One row of a group: the three-stage coefficient and offset applied to the state before the group are the state after
    the row. -/
theorem group_row (v5 v30 v32 : FVec Ideal S2048x512 .f32) (v34 : FVec Ideal S1x512 .f32) (g : Fin 256) (s : Fin 8)
    (l : Fin 512) (h : ℕ → EReal)
    (ha : ∀ n, 0 ≤ k0_pay10 v32 v34 (ix3 g (f8 n) l) ∧ k0_pay10 v32 v34 (ix3 g (f8 n) l) ≠ ⊤)
    (hh : ∀ n, h (n + 1) = k0_pay10 v32 v34 (ix3 g (f8 n) l) * h n
      + uin (k0_pay10 v32 v34 (ix3 g (f8 n) l)) (v30 (ix2 (row8 g (f8 n)) l)) (v5 (ix2 (row8 g (f8 n)) l))) :
    k0_pay18 (k0_pay15 v32 v34) k0_pay16 (ix3 g s l) * h 0
      + k0_pay17 (k0_pay14 v5 v30 v32 v34) (k0_pay15 v32 v34) k0_pay16 (ix3 g s l) = h (s.val + 1) := by
  have hm : ∀ n ≤ s.val, (f8 n).val = n := fun n hn => Nat.mod_eq_of_lt (lt_of_le_of_lt hn s.isLt)
  have e12 : ∀ n ≤ s.val, k0_pay12 v32 v34 (ix3 g (f8 n) l) = stA 1 (fun n => k0_pay10 v32 v34 (ix3 g (f8 n) l)) n :=
    fun n hn => by rw [pay12_apply, hm n hn]
  have e15 : ∀ n ≤ s.val, k0_pay15 v32 v34 (ix3 g (f8 n) l)
      = stA 2 (stA 1 (fun n => k0_pay10 v32 v34 (ix3 g (f8 n) l))) n :=
    fun n hn => by rw [pay15_apply, hm n hn]; exact stA_congr 2 n fun k hk => e12 k (hk.trans hn)
  rw [pay18_apply, pay17_apply, ← group_scan _ _ h ha hh s.val s.isLt]
  refine congrArg₂ (· + ·) (congrArg (· * h 0) (stA_congr 4 s.val e15)) (stU_congr 4 s.val e15 fun n hn => ?_)
  rw [pay14_apply, hm n hn]
  refine stU_congr 2 n (fun k hk => e12 k (hk.trans hn)) fun k hk => ?_
  rw [hm k (hk.trans hn)]

theorem slice_group (g : ℕ) : S256x8x512.Slices ![g % 256, 0, 0] S1x8x512 := by
  refine ⟨rfl, fun a => ?_⟩
  have := Nat.mod_lt g (show 0 < 256 by norm_num)
  fin_cases a
  · show g % 256 + 1 ≤ 256
    omega
  · show 0 + 8 ≤ 8
    omega
  · show 0 + 512 ≤ 512
    omega

/-- The rows of group `g` from the state before it: coefficient times state plus offset. -/
def grp (A U : FVec Ideal S256x8x512 .f32) (g : ℕ) (h : FVec Ideal S1x512 .f32) : FVec Ideal S8x512 .f32 :=
  addf (mulf (shapeCast S8x512 (extractStridedSlice S1x8x512 ![g % 256, 0, 0] A (slice_group g)) shapeCasts_S1x8x512_S8x512)
      (broadcastTo S8x512 h broadcasts_S1x512_S8x512))
    (shapeCast S8x512 (extractStridedSlice S1x8x512 ![g % 256, 0, 0] U (slice_group g)) shapeCasts_S1x8x512_S8x512)

/-- The state before group `g`: the last row of the group before. -/
def carry (A U : FVec Ideal S256x8x512 .f32) (h : FVec Ideal S1x512 .f32) (g : ℕ) : FVec Ideal S1x512 .f32 :=
  Nat.rec h (fun k p => extractStridedSlice S1x512 ![7, 0] (grp A U k p) slices_S8x512_o7_0_S1x512) g

theorem block_ok (f : Fin 256 → FVec Ideal S8x512 .f32) :
    Shape.Concatenates ((List.ofFn fun n : Fin 256 => (⟨S8x512, f n⟩ : (s : Shape) × (s.Idx → EReal))).map (·.1))
      S2048x512 0 := by
  rw [show ((List.ofFn fun n : Fin 256 => (⟨S8x512, f n⟩ : (s : Shape) × (s.Idx → EReal))).map (·.1))
    = List.replicate 256 S8x512 by rw [List.map_ofFn]; exact List.ofFn_const 256 S8x512]
  decide +kernel

/-- The block's states: the groups one after the other. -/
def block (A U : FVec Ideal S256x8x512 .f32) (h : FVec Ideal S1x512 .f32) : FVec Ideal S2048x512 .f32 :=
  concatenate S2048x512 0 (List.ofFn fun n : Fin 256 => ⟨S8x512, grp A U n.val (carry A U h n.val)⟩) (block_ok _)

end Cert.Lru
end
-- ==== Proof.LruOut.lean ====
module

public import proofs.«01_k».proof.Proof.LruKernel
public import proofs.«01_k».proof.Proof.Gen.KernelIdeal.Value
public import Idealize.ShloMosaic.Lib.Pipeline.ValueKit

@[expose] public section

set_option maxRecDepth 16384

noncomputable section

namespace Cert.Lru

open Idealize.ShloMosaic Idealize.ShloMosaic.Pipeline Idealize.SL.Sem Cert.KernelIdeal Cert.KernelIdeal.Gen

variable (c : Dev nD) (i : grid0.Coords)
  (arg2 : Memref sig .tc .vmem S1x2048x512 .bf16) (harg2 : arg2.IsWhole)
  (arg3 : Memref sig .tc .vmem S1x2048x512 .bf16) (harg3 : arg3.IsWhole)
  (arg4 : Memref sig .tc .vmem S512x1024 .bf16) (harg4 : arg4.IsWhole)
  (arg5 : Memref sig .tc .vmem S1x1024 .f32) (harg5 : arg5.IsWhole)
  (arg6 : Memref sig .tc .vmem S1x512 .f32) (harg6 : arg6.IsWhole)
  (arg7 : Memref sig .tc .vmem S1x2048x512 .bf16) (harg7 : arg7.IsWhole)
  (arg8 : Memref sig .tc .vmem S1x512 .f32) (harg8 : arg8.IsWhole)
  (x0 x1 : Vec Ideal S1x2048x512 .bf16) (x2 : Vec Ideal S512x1024 .bf16) (x3 : Vec Ideal S1x1024 .f32)
  (x4 xs0 : Vec Ideal S1x512 .f32)

theorem hz1 : (![0, 0] : Fin 2 → ℕ) = 0 := by funext a; fin_cases a <;> rfl
theorem hz3 : (![0, 0, 0] : Fin 3 → ℕ) = 0 := by funext a; fin_cases a <;> rfl

/-- The three-stage coefficients of a block. -/
def cA : FVec Ideal S256x8x512 .f32 := k0_pay18 (k0_pay15 (k0_pay7 x0 x2 x3) (k0_pay8 x4)) k0_pay16
/-- The three-stage offsets of a block. -/
def cU : FVec Ideal S256x8x512 .f32 :=
  k0_pay17 (k0_pay14 (k0_pay4 x0) (k0_pay6 x0 x2 x3) (k0_pay7 x0 x2 x3) (k0_pay8 x4)) (k0_pay15 (k0_pay7 x0 x2 x3) (k0_pay8 x4)) k0_pay16

theorem wordB_A : kernelRun0_B.sl.r_7 c arg2 harg2 arg4 harg4 arg5 harg5 arg6 harg6 x0 x2 x3 x4 = cA x0 x2 x3 x4 := by
  sl_unfold_words
  simp only [View.readAt_eq_ld, harg2.read_unread, harg4.read_unread, harg5.read_unread, harg6.read_unread,
    View.ld_unit_zero (S := S1x2048x512) hz3, View.ld_unit_zero (S := S512x1024) hz1, View.ld_unit_zero (S := S1x1024) hz1,
    View.ld_unit_zero (S := S1x512) hz1]
  rfl
theorem wordB_U : kernelRun0_B.sl.r_6 c arg2 harg2 arg4 harg4 arg5 harg5 arg6 harg6 x0 x2 x3 x4 = cU x0 x2 x3 x4 := by
  sl_unfold_words
  simp only [View.readAt_eq_ld, harg2.read_unread, harg4.read_unread, harg5.read_unread, harg6.read_unread,
    View.ld_unit_zero (S := S1x2048x512) hz3, View.ld_unit_zero (S := S512x1024) hz1, View.ld_unit_zero (S := S1x1024) hz1,
    View.ld_unit_zero (S := S1x512) hz1]
  rfl
theorem wordA_A : kernelRun0_A.sl.r_7 c arg2 harg2 arg4 harg4 arg5 harg5 arg6 harg6 x0 x2 x3 x4 = cA x0 x2 x3 x4 := by
  sl_unfold_words
  simp only [View.readAt_eq_ld, harg2.read_unread, harg4.read_unread, harg5.read_unread, harg6.read_unread,
    View.ld_unit_zero (S := S1x2048x512) hz3, View.ld_unit_zero (S := S512x1024) hz1, View.ld_unit_zero (S := S1x1024) hz1,
    View.ld_unit_zero (S := S1x512) hz1]
  rfl
theorem wordA_U : kernelRun0_A.sl.r_6 c arg2 harg2 arg4 harg4 arg5 harg5 arg6 harg6 x0 x2 x3 x4 = cU x0 x2 x3 x4 := by
  sl_unfold_words
  simp only [View.readAt_eq_ld, harg2.read_unread, harg4.read_unread, harg5.read_unread, harg6.read_unread,
    View.ld_unit_zero (S := S1x2048x512) hz3, View.ld_unit_zero (S := S512x1024) hz1, View.ld_unit_zero (S := S1x1024) hz1,
    View.ld_unit_zero (S := S1x512) hz1]
  rfl

theorem read8 : View.readAt (Elt Ideal) arg8.view (Rect.unit ![0, 0] ![1, 512] inb_S1x512_S1x512_0_0).toLoadRect
    (harg8.unread xs0) = xs0 := by
  simp only [View.readAt_eq_ld, harg8.read_unread, View.ld_unit_zero (S := S1x512) hz1]

theorem zeroA : kernelRun0_A.sl.v89 (F := Ideal) c arg8 = (k0_pay3 : FVec Ideal S1x512 .f32) := by
  sl_unfold_words
  rw [View.readCov_unit_zero (S := S1x512) _ hz1]

/-- A later point's output: the block's states from the carried state, times the gate. -/
theorem outB (hc0 : ¬cond0_0 i) :
    out0_B_5 c i arg2 harg2 arg3 harg3 arg4 harg4 arg5 harg5 arg6 harg6 arg7 harg7 arg8 harg8 hc0 x0 x1 x2 x3 x4 xs0 = k0_pay2 (block (cA x0 x2 x3 x4) (cU x0 x2 x3 x4) xs0) x1 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero hz3]
  simp only [View.readAt_eq_ld, harg3.read_unread, View.ld_unit_zero (S := S1x2048x512) hz3]
  refine congrArg (fun b => k0_pay2 b x1) ?_
  rw [← wordB_A c arg2 harg2 arg4 harg4 arg5 harg5 arg6 harg6, ← wordB_U c arg2 harg2 arg4 harg4 arg5 harg5 arg6 harg6]
  refine Eq.trans ?_ (congrArg (block (kernelRun0_B.sl.r_7 c arg2 harg2 arg4 harg4 arg5 harg5 arg6 harg6 x0 x2 x3 x4) (kernelRun0_B.sl.r_6 c arg2 harg2 arg4 harg4 arg5 harg5 arg6 harg6 x0 x2 x3 x4)) (read8 arg8 harg8 xs0))
  sl_kernel_rfl

/-- A later point's carried state: the last row of the block. -/
theorem soutB (hc0 : ¬cond0_0 i) :
    sout0_B_0 c i arg2 harg2 arg3 harg3 arg4 harg4 arg5 harg5 arg6 harg6 arg7 harg7 arg8 harg8 hc0 x0 x1 x2 x3 x4 xs0 = carry (cA x0 x2 x3 x4) (cU x0 x2 x3 x4) xs0 256 := by
  unfold sout0_B_0
  rw [View.read_writes_eq_canon _ _ _ (scover0_B_0 c i arg2 harg2 arg3 harg3 arg4 harg4 arg5 harg5 arg6 harg6 arg7 harg7 arg8 harg8 hc0 x0 x1 x2 x3 x4 xs0)]
  unfold kernelRun0_B
  dsimp only
  rw [View.canon_unit_zero hz1]
  unfold k0_pay1
  simp only [shapeCast_self]
  rw [← wordB_A c arg2 harg2 arg4 harg4 arg5 harg5 arg6 harg6, ← wordB_U c arg2 harg2 arg4 harg4 arg5 harg5 arg6 harg6]
  refine Eq.trans ?_ (congrArg (fun h => carry (kernelRun0_B.sl.r_7 c arg2 harg2 arg4 harg4 arg5 harg5 arg6 harg6 x0 x2 x3 x4) (kernelRun0_B.sl.r_6 c arg2 harg2 arg4 harg4 arg5 harg5 arg6 harg6 x0 x2 x3 x4) h 256) (read8 arg8 harg8 xs0))
  sl_kernel_rfl

/-- A batch's first point's output: the block's states from zero, times the gate. -/
theorem outA (hc0 : cond0_0 i) :
    out0_A_5 c i arg2 harg2 arg3 harg3 arg4 harg4 arg5 harg5 arg6 harg6 arg7 harg7 arg8 harg8 hc0 x0 x1 x2 x3 x4 = k0_pay2 (block (cA x0 x2 x3 x4) (cU x0 x2 x3 x4) k0_pay3) x1 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  rw [View.canon_unit_zero hz3]
  simp only [View.readAt_eq_ld, harg3.read_unread, View.ld_unit_zero (S := S1x2048x512) hz3]
  refine congrArg (fun b => k0_pay2 b x1) ?_
  rw [← wordA_A c arg2 harg2 arg4 harg4 arg5 harg5 arg6 harg6, ← wordA_U c arg2 harg2 arg4 harg4 arg5 harg5 arg6 harg6]
  refine Eq.trans ?_ (congrArg (block (kernelRun0_A.sl.r_7 c arg2 harg2 arg4 harg4 arg5 harg5 arg6 harg6 x0 x2 x3 x4) (kernelRun0_A.sl.r_6 c arg2 harg2 arg4 harg4 arg5 harg5 arg6 harg6 x0 x2 x3 x4)) (zeroA c arg8))
  sl_kernel_rfl

/-- A batch's first point's carried state. -/
theorem soutA (hc0 : cond0_0 i) :
    sout0_A_0 c i arg2 harg2 arg3 harg3 arg4 harg4 arg5 harg5 arg6 harg6 arg7 harg7 arg8 harg8 hc0 x0 x1 x2 x3 x4 = carry (cA x0 x2 x3 x4) (cU x0 x2 x3 x4) k0_pay3 256 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  rw [View.canon_cons_unit_zero (S := S1x512) hz1]
  unfold k0_pay1
  simp only [shapeCast_self]
  rw [← wordA_A c arg2 harg2 arg4 harg4 arg5 harg5 arg6 harg6, ← wordA_U c arg2 harg2 arg4 harg4 arg5 harg5 arg6 harg6]
  refine Eq.trans ?_ (congrArg (fun h => carry (kernelRun0_A.sl.r_7 c arg2 harg2 arg4 harg4 arg5 harg5 arg6 harg6 x0 x2 x3 x4) (kernelRun0_A.sl.r_6 c arg2 harg2 arg4 harg4 arg5 harg5 arg6 harg6 x0 x2 x3 x4) h 256) (zeroA c arg8))
  sl_kernel_rfl

end Cert.Lru
end
-- ==== Proof.LruBlock.lean ====
module

public import proofs.«01_k».proof.Proof.LruOut

@[expose] public section

set_option maxRecDepth 16384

noncomputable section

namespace Cert.Lru

open Idealize.ShloMosaic Idealize.ShloMosaic.Pipeline Cert.KernelIdeal Cert.KernelIdeal.Gen Cert.Scan

/-- The logistic function. -/
def sgm (p : EReal) : EReal := Ideal.div 1 (1 + Ideal.exp (-p))

/-- The state's decay exponent, of the recurrence gate and the decay parameter. -/
def dec (r lam : EReal) : EReal := ((-8 : ℝ) : EReal) * sgm r * softplus (-lam)

/-- The state's input, of the decay exponent, the input gate and the input. -/
def inp (L i x : EReal) : EReal := Ideal.sqrt (-(Ideal.exp (((2 : ℝ) : EReal) * L) - 1)) * (i * x)

variable (x0 x1 : Vec Ideal S1x2048x512 .bf16) (x2 : Vec Ideal S512x1024 .bf16) (x3 : Vec Ideal S1x1024 .f32)
  (x4 : Vec Ideal S1x512 .f32)

def colA (l : Fin 512) : Fin 1024 := ⟨l.val, by omega⟩
def colX (l : Fin 512) : Fin 1024 := ⟨512 + l.val, by omega⟩

/-- A gate before its logistic, in a block. -/
def gpre (r : Fin 2048) (k : Fin 1024) : EReal := (∑ q : Fin 512, x0 (ix3 0 r q) * x2 (ix2 q k)) + x3 (ix2 0 k)

theorem pay7_apply (r : Fin 2048) (l : Fin 512) :
    k0_pay7 x0 x2 x3 (ix2 r l) = ((-8 : ℝ) : EReal) * sgm (gpre x0 x2 x3 r (colA l)) := by
  unfold sgm gpre colA
  rw [← half_tanh]
  pointwise [k0_pay7, k0_pay5]
  rw [half_f32, neg_eight_f32]

theorem pay6_apply (r : Fin 2048) (l : Fin 512) :
    k0_pay6 x0 x2 x3 (ix2 r l) = sgm (gpre x0 x2 x3 r (colX l)) := by
  unfold sgm gpre colX
  rw [← half_tanh]
  pointwise [k0_pay6, k0_pay5]
  rw [half_f32]

theorem pay4_apply (r : Fin 2048) (l : Fin 512) : k0_pay4 x0 (ix2 r l) = x0 (ix3 0 r l) := by
  pointwise [k0_pay4]
theorem pay8_apply (l : Fin 512) : k0_pay8 x4 (ix2 0 l) = x4 (ix2 0 l) := by
  pointwise [k0_pay8]

/-- The decay exponent at a row of the block. -/
def bL (r : Fin 2048) (l : Fin 512) : EReal := dec (gpre x0 x2 x3 r (colA l)) (x4 (ix2 0 l))

theorem bL_nonpos (r : Fin 2048) (l : Fin 512) : bL x0 x2 x3 x4 r l ≤ 0 := decay_nonpos _ _

theorem a_apply (g : Fin 256) (s : Fin 8) (l : Fin 512) :
    k0_pay10 (k0_pay7 x0 x2 x3) (k0_pay8 x4) (ix3 g s l) = Ideal.exp (bL x0 x2 x3 x4 (row8 g s) l) := by
  rw [pay10_apply, pay7_apply, pay8_apply]
  rfl

theorem u_apply (g : Fin 256) (s : Fin 8) (l : Fin 512) :
    uin (k0_pay10 (k0_pay7 x0 x2 x3) (k0_pay8 x4) (ix3 g s l)) (k0_pay6 x0 x2 x3 (ix2 (row8 g s) l))
        (k0_pay4 x0 (ix2 (row8 g s) l))
      = inp (bL x0 x2 x3 x4 (row8 g s) l) (sgm (gpre x0 x2 x3 (row8 g s) (colX l))) (x0 (ix3 0 (row8 g s) l)) := by
  rw [a_apply, pay6_apply, pay4_apply]
  unfold uin inp
  rw [root_eq (bL_nonpos x0 x2 x3 x4 (row8 g s) l)]

/-- A group's rows, of any sequence of states that goes through the block's steps. -/
theorem group_state (g : Fin 256) (l : Fin 512) (H : ℕ → EReal)
    (hH : ∀ r : Fin 2048, H (r.val + 1) = Ideal.exp (bL x0 x2 x3 x4 r l) * H r.val
      + inp (bL x0 x2 x3 x4 r l) (sgm (gpre x0 x2 x3 r (colX l))) (x0 (ix3 0 r l))) (s : Fin 8) :
    cA x0 x2 x3 x4 (ix3 g s l) * H (g.val * 8) + cU x0 x2 x3 x4 (ix3 g s l) = H (g.val * 8 + s.val + 1) := by
  let hg : ℕ → EReal := fun n => Nat.rec (H (g.val * 8))
    (fun n p => k0_pay10 (k0_pay7 x0 x2 x3) (k0_pay8 x4) (ix3 g (f8 n) l) * p
      + uin (k0_pay10 (k0_pay7 x0 x2 x3) (k0_pay8 x4) (ix3 g (f8 n) l)) (k0_pay6 x0 x2 x3 (ix2 (row8 g (f8 n)) l))
        (k0_pay4 x0 (ix2 (row8 g (f8 n)) l))) n
  have e : ∀ n ≤ 8, hg n = H (g.val * 8 + n) := by
    intro n
    induction n with
    | zero => intro _; rfl
    | succ n ih =>
      intro hn
      have e1 : hg (n + 1) = k0_pay10 (k0_pay7 x0 x2 x3) (k0_pay8 x4) (ix3 g (f8 n) l) * hg n
        + uin (k0_pay10 (k0_pay7 x0 x2 x3) (k0_pay8 x4) (ix3 g (f8 n) l)) (k0_pay6 x0 x2 x3 (ix2 (row8 g (f8 n)) l))
          (k0_pay4 x0 (ix2 (row8 g (f8 n)) l)) := rfl
      have er : (row8 g (f8 n)).val = g.val * 8 + n := by
        show g.val * 8 + n % 8 = _
        omega
      rw [e1, u_apply, a_apply, ih (by omega), ← er, ← Nat.add_assoc, ← er]
      exact (hH (row8 g (f8 n))).symm
  have h := group_row (k0_pay4 x0) (k0_pay6 x0 x2 x3) (k0_pay7 x0 x2 x3) (k0_pay8 x4) g s l hg
    (fun n => by
      rw [a_apply]
      obtain ⟨r, hr, e⟩ := exp_real (bL_nonpos x0 x2 x3 x4 (row8 g (f8 n)) l)
      rw [e]
      exact ⟨EReal.coe_nonneg.mpr hr, EReal.coe_ne_top r⟩) (fun n => rfl)
  rw [e 0 (by omega), e (s.val + 1) (by omega)] at h
  exact h

theorem grp_apply (A U : FVec Ideal S256x8x512 .f32) (g : Fin 256) (h : FVec Ideal S1x512 .f32) (s : Fin 8) (l : Fin 512) :
    grp A U g.val h (ix2 s l) = A (ix3 g s l) * h (ix2 0 l) + U (ix3 g s l) := by
  have hg : (⟨g.val % 256, Nat.mod_lt _ (by norm_num)⟩ : Fin 256) = g := Fin.ext (Nat.mod_eq_of_lt g.isLt)
  pointwise [grp]
  rw [hg]

theorem carry_apply (h : FVec Ideal S1x512 .f32) (l : Fin 512) (H : ℕ → EReal)
    (h0 : h (ix2 0 l) = H 0)
    (hH : ∀ r : Fin 2048, H (r.val + 1) = Ideal.exp (bL x0 x2 x3 x4 r l) * H r.val
      + inp (bL x0 x2 x3 x4 r l) (sgm (gpre x0 x2 x3 r (colX l))) (x0 (ix3 0 r l))) (g : ℕ) (hg : g ≤ 256) :
    carry (cA x0 x2 x3 x4) (cU x0 x2 x3 x4) h g (ix2 0 l) = H (g * 8) := by
  induction g with
  | zero => rw [Nat.zero_mul]; exact h0
  | succ g ih =>
    have e : carry (cA x0 x2 x3 x4) (cU x0 x2 x3 x4) h (g + 1) (ix2 0 l)
        = grp (cA x0 x2 x3 x4) (cU x0 x2 x3 x4) g (carry (cA x0 x2 x3 x4) (cU x0 x2 x3 x4) h g) (ix2 7 l) := by
      show extractStridedSlice S1x512 ![7, 0] (grp (cA x0 x2 x3 x4) (cU x0 x2 x3 x4) g (carry (cA x0 x2 x3 x4) (cU x0 x2 x3 x4) h g))
        slices_S8x512_o7_0_S1x512 (ix2 0 l) = _
      generalize grp (cA x0 x2 x3 x4) (cU x0 x2 x3 x4) g (carry (cA x0 x2 x3 x4) (cU x0 x2 x3 x4) h g) = p
      pointwise
    rw [e, grp_apply _ _ ⟨g, by omega⟩, ih (by omega), group_state x0 x2 x3 x4 ⟨g, by omega⟩ l H hH 7]
    exact congrArg H (by show g * 8 + 7 + 1 = (g + 1) * 8; omega)

/-- The block's states. -/
theorem block_apply (h : FVec Ideal S1x512 .f32) (l : Fin 512) (H : ℕ → EReal)
    (h0 : h (ix2 0 l) = H 0)
    (hH : ∀ r : Fin 2048, H (r.val + 1) = Ideal.exp (bL x0 x2 x3 x4 r l) * H r.val
      + inp (bL x0 x2 x3 x4 r l) (sgm (gpre x0 x2 x3 r (colX l))) (x0 (ix3 0 r l))) (r : Fin 2048) :
    block (cA x0 x2 x3 x4) (cU x0 x2 x3 x4) h (ix2 r l) = H (r.val + 1) := by
  have hr := r.isLt
  unfold block
  rw [concatenate_ofFn_apply (t := S2048x512) (s₁ := S8x512) 0 _ _ rfl 8 rfl (ix2 r l) ⟨r.val / 8, by omega⟩ rfl
    (ix2 ⟨r.val % 8, Nat.mod_lt _ (by norm_num)⟩ l) rfl (fun b hb => by fin_cases b <;> [exact absurd rfl hb; rfl])]
  rw [grp_apply _ _ ⟨r.val / 8, by omega⟩, carry_apply x0 x2 x3 x4 h l H h0 hH (r.val / 8) (by omega),
    group_state x0 x2 x3 x4 ⟨r.val / 8, by omega⟩ l H hH]
  exact congrArg H (by show r.val / 8 * 8 + r.val % 8 + 1 = r.val + 1; omega)

end Cert.Lru
end
-- ==== Proof.LruValue.lean ====
/-
  The recurrence kernel's result array from the argument arrays.
-/
module

public import proofs.«01_k».proof.Proof.LruBlock
public import Idealize.ShloMosaic.Lib.Claim

@[expose] public section

set_option maxRecDepth 16384

noncomputable section

namespace Cert.Lru

open Idealize.ShloMosaic Idealize.ShloMosaic.TcCoe Idealize.SL.Sem Cert.KernelIdeal Cert.KernelIdeal.Gen Cert.Scan

/-- The gate applied to the recurrence's states. -/
def gelu (z : EReal) : EReal :=
  z * (Ideal.ofBits .f32 0x3F000000#32 * (1 + Ideal.tanh (Ideal.ofBits .f32 0x3F4C422A#32 *
    (z + Ideal.ofBits .f32 0x3D372713#32 * (z * z * z)))))

theorem pay2_apply (y : FVec Ideal S2048x512 .f32) (z : Vec Ideal S1x2048x512 .bf16) (r : Fin 2048) (l : Fin 512) :
    k0_pay2 y z (ix3 0 r l) = y (ix2 r l) * gelu (z (ix3 0 r l)) := by
  pointwise [k0_pay2]
  unfold gelu
  rw [mul_comm (Ideal.ofBits FTy.f32 1056964608#32) (z (ix3 0 r l)), mul_assoc (z (ix3 0 r l)) (Ideal.ofBits FTy.f32 1056964608#32)]

theorem pay3_apply (l : Fin 512) : (k0_pay3 : FVec Ideal S1x512 .f32) (ix2 0 l) = 0 := by
  pointwise [k0_pay3]

/-- The block-diagonal matrix of eight square blocks. -/
def diag (w : FVec Ideal S8x64x64 .f32) : FVec Ideal S512x512 .f32 :=
  shapeCast S512x512 (mulf
    (broadcastInDim S8x64x8x64 ![0, 1, 2, 3] bcast_S8x1x8x1_S8x64x8x64_0_1_2_3
      (broadcastInDim S8x1x8x1 ![0, 2] bcast_S8x8_S8x1x8x1_0_2
        (uitofp FTy.f32 (cmpi CmpIPredicate.eq
          (addi (iotaInDim S8x8 32 0) (broadcastInDim S8x8 ![] bcast_S_S8x8 (constantI S_ 32 0#32))) (iotaInDim S8x8 32 1)))))
    (broadcastInDim S8x64x8x64 ![0, 1, 2, 3] bcast_S8x64x1x64_S8x64x8x64_0_1_2_3
      (broadcastInDim S8x64x1x64 ![0, 1, 3] bcast_S8x64x64_S8x64x1x64_0_1_3 w))) shapeCasts_S8x64x8x64_S512x512

/-- The identity of eight rows. -/
def eye8 : FVec Ideal S8x8 .f32 := uitofp FTy.f32 (cmpi CmpIPredicate.eq
  (addi (iotaInDim S8x8 32 0) (broadcastInDim S8x8 ![] bcast_S_S8x8 (constantI S_ 32 0#32))) (iotaInDim S8x8 32 1))

theorem eye8_apply (a b : Fin 8) : eye8 (ix2 a b) = if a = b then (1 : EReal) else 0 := by
  pointwise [eye8]
  rw [show IntOp.cmpi CmpIPredicate.eq (IntOp.addi (BitVec.ofNat 32 a.val) 0#32) (BitVec.ofNat 32 b.val) = if a = b then 1#1 else 0#1 from by
    revert a b; decide]
  by_cases h : a = b
  · rw [if_pos h, if_pos h]
    show (((1 : ℕ) : ℝ) : EReal) = 1
    rw [Nat.cast_one]; rfl
  · rw [if_neg h, if_neg h]
    show (((0 : ℕ) : ℝ) : EReal) = 0
    rw [Nat.cast_zero]; rfl

theorem diag_apply (w : FVec Ideal S8x64x64 .f32) (q l : Fin 512) : diag w (ix2 q l) =
    eye8 (ix2 ⟨q.val / 64, by omega⟩ ⟨l.val / 64, by omega⟩)
      * w (ix3 ⟨q.val / 64, by omega⟩ ⟨q.val % 64, by omega⟩ ⟨l.val % 64, by omega⟩) := by
  change shapeCast S512x512 (mulf
    (broadcastInDim S8x64x8x64 ![0, 1, 2, 3] bcast_S8x1x8x1_S8x64x8x64_0_1_2_3
      (broadcastInDim S8x1x8x1 ![0, 2] bcast_S8x8_S8x1x8x1_0_2 eye8))
    (broadcastInDim S8x64x8x64 ![0, 1, 2, 3] bcast_S8x64x1x64_S8x64x8x64_0_1_2_3
      (broadcastInDim S8x64x1x64 ![0, 1, 3] bcast_S8x64x64_S8x64x1x64_0_1_3 w))) shapeCasts_S8x64x8x64_S512x512 (ix2 q l) = _
  generalize eye8 = e
  pointwise

/-- The block of a column, the column's place in it, and a column of its block. -/
def cb (l : Fin 512) : Fin 8 := ⟨l.val / 64, by omega⟩
def ci (l : Fin 512) : Fin 64 := ⟨l.val % 64, by omega⟩
def cq (l : Fin 512) (q : Fin 64) : Fin 512 := ⟨l.val / 64 * 64 + q.val, by omega⟩

section Spec

variable (X : FVec Ideal S4x8192x512 .bf16) (Z : FVec Ideal S4x8192x1536 .bf16) (Wa : FVec Ideal S8x64x64 .f32)
  (Ba : FVec Ideal S512 .f32) (Wx : FVec Ideal S8x64x64 .f32) (Bx Lam : FVec Ideal S512 .f32)

/-- A gate's argument: the block-diagonal product and its bias. -/
def gate (W : FVec Ideal S8x64x64 .f32) (B : FVec Ideal S512 .f32) (b : Fin 4) (s : Fin 8192) (l : Fin 512) : EReal :=
  (∑ q : Fin 64, X (ix3 b s (cq l q)) * W (ix3 (cb l) q (ci l))) + B (ix1 l)

/-- The decay's exponent. -/
def ex (b : Fin 4) (s : Fin 8192) (l : Fin 512) : EReal := dec (gate X Wa Ba b s l) (Lam (ix1 l))

/-- What the recurrence takes in at a position. -/
def drive (b : Fin 4) (s : Fin 8192) (l : Fin 512) : EReal :=
  inp (ex X Wa Ba Lam b s l) (sgm (gate X Wx Bx b s l)) (X (ix3 b s l))

/-- A position of a count. -/
def ps (n : ℕ) : Fin 8192 := ⟨n % 8192, Nat.mod_lt _ (by norm_num)⟩

/-- The recurrence's state before each position. -/
def state (b : Fin 4) (l : Fin 512) : ℕ → EReal :=
  hseq (fun n => Ideal.exp (ex X Wa Ba Lam b (ps n) l)) (fun n => drive X Wa Ba Wx Bx Lam b (ps n) l)

/-- One element of the result. -/
def spec (b : Fin 4) (s : Fin 8192) (l : Fin 512) : EReal :=
  state X Wa Ba Wx Bx Lam b l (s.val + 1) * gelu (Z (ix3 b s ⟨1024 + l.val, by omega⟩))

/-- The block-diagonal matrix's column holds one block's column. -/
theorem sum_diag (Y : Fin 512 → EReal) (w : FVec Ideal S8x64x64 .f32) (l : Fin 512) :
    ∑ q : Fin 512, Y q * diag w (ix2 q l) = ∑ q : Fin 64, Y (cq l q) * w (ix3 (cb l) q (ci l)) := by
  rw [Fin.sum_univ_tiles 8 64 rfl, Finset.sum_eq_single (cb l)]
  · refine Finset.sum_congr rfl fun q _ => ?_
    have hq := q.isLt
    have e1 : (⟨((cb l).val * 64 + q.val) / 64, by have := (cb l).isLt; omega⟩ : Fin 8) = cb l := Fin.ext (by show ((cb l).val * 64 + q.val) / 64 = (cb l).val; omega)
    have e2 : (⟨((cb l).val * 64 + q.val) % 64, by omega⟩ : Fin 64) = q := Fin.ext (by show ((cb l).val * 64 + q.val) % 64 = q.val; omega)
    rw [diag_apply, e1, e2, eye8_apply, if_pos (show cb l = ⟨l.val / 64, _⟩ from rfl), one_mul]
    rfl
  · intro j _ hj
    refine Finset.sum_eq_zero fun q _ => ?_
    have hq := q.isLt
    have hne : ¬ (⟨(j.val * 64 + q.val) / 64, by have := j.isLt; omega⟩ : Fin 8) = ⟨l.val / 64, by omega⟩ := by
      intro h
      apply hj
      apply Fin.ext
      have := congrArg Fin.val h
      show j.val = l.val / 64
      have h2 : (j.val * 64 + q.val) / 64 = l.val / 64 := this
      omega
    rw [diag_apply, eye8_apply, if_neg hne, zero_mul, mul_zero]
  · intro h; exact absurd (Finset.mem_univ _) h

end Spec

variable (m : (ℓ : Loc nD τ sig) → Buf (Elt Ideal) ℓ) (ρ : Dev nD → PrngReg)

/-- The batch of a grid point. -/
def tb (t : Fin cfg0.N) : Fin 4 := ⟨t.val / 4, by have : t.val < 16 := t.isLt; omega⟩

/-- The sequence position of row `r` of a grid point's block. -/
def ts (t : Fin cfg0.N) (r : Fin 2048) : Fin 8192 := ⟨t.val % 4 * 2048 + r.val, by omega⟩

theorem i0 : ∀ t : Fin cfg0.N, win0_0.index t = ![t.val / 4, t.val % 4, 0] := (by decide +kernel : ∀ t : Fin grid0.N, _)
theorem i1 : ∀ t : Fin cfg0.N, win0_1.index t = ![t.val / 4, t.val % 4, 2] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)

theorem rd0 (c : Dev nD) (t : Fin cfg0.N) (r : Fin 2048) (k : Fin 512) :
    iblk m c 0 t (ix3 0 r k) = m ((c : Thread nD τ).loc main_arg0) (ix3 (tb t) (ts t r) k) := by
  unfold tb ts; blk_ext [iblk, V, i0 t]
theorem rd1 (c : Dev nD) (t : Fin cfg0.N) (r : Fin 2048) (k : Fin 512) :
    iblk m c 1 t (ix3 0 r k) = m ((c : Thread nD τ).loc main_arg1) (ix3 (tb t) (ts t r) ⟨1024 + k.val, by omega⟩) := by
  unfold tb ts; blk_ext [iblk, V, i1 t]
theorem rd3a (c : Dev nD) (t : Fin cfg0.N) (l : Fin 512) :
    iblk m c 3 t (ix2 0 (colA l)) = m ((c : Thread nD τ).loc main_arg3) (ix1 l) := by
  blk_simp [iblk]; entry_read; pointwise; unfold colA; blk_simp [i3 t]
  rw [dif_pos l.isLt]
theorem rd3x (c : Dev nD) (t : Fin cfg0.N) (l : Fin 512) :
    iblk m c 3 t (ix2 0 (colX l)) = m ((c : Thread nD τ).loc main_arg5) (ix1 l) := by
  blk_simp [iblk]; entry_read; pointwise; unfold colX; blk_simp [i3 t]
  rw [dif_neg (show ¬ 512 + l.val < 512 by omega)]
  exact congrArg _ (congrArg ix1 (Fin.ext (by show 512 + l.val - 512 = l.val; omega)))
theorem rd4 (c : Dev nD) (t : Fin cfg0.N) (l : Fin 512) :
    iblk m c 4 t (ix2 0 l) = m ((c : Thread nD τ).loc main_arg6) (ix1 l) := by
  blk_simp [iblk]; entry_read; pointwise; blk_ext [i4 t]

theorem rd2a (c : Dev nD) (t : Fin cfg0.N) (q l : Fin 512) :
    iblk m c 2 t (ix2 q (colA l)) = diag (m ((c : Thread nD τ).loc main_arg2)) (ix2 q l) := by
  blk_simp [iblk]; entry_read
  rw [show ((View.whole main_v25).slice (win0_2.rect t)).emb (ix2 q (colA l)) = ix2 q (colA l) from by blk_ext [i2 t]]
  change truncf FTy.bf16 (concatenate S512x1024 1 [⟨S512x512, diag (m ((c : Thread nD τ).loc main_arg2))⟩,
    ⟨S512x512, diag (m ((c : Thread nD τ).loc main_arg4))⟩] concatenates_S512x512_S512x512_S512x1024_d1) bitsLt_bf16_f32 (ix2 q (colA l)) = _
  generalize diag (m ((c : Thread nD τ).loc main_arg2)) = d
  generalize diag (m ((c : Thread nD τ).loc main_arg4)) = d'
  unfold colA
  pointwise

theorem rd2x (c : Dev nD) (t : Fin cfg0.N) (q l : Fin 512) :
    iblk m c 2 t (ix2 q (colX l)) = diag (m ((c : Thread nD τ).loc main_arg4)) (ix2 q l) := by
  blk_simp [iblk]; entry_read
  rw [show ((View.whole main_v25).slice (win0_2.rect t)).emb (ix2 q (colX l)) = ix2 q (colX l) from by blk_ext [i2 t]]
  change truncf FTy.bf16 (concatenate S512x1024 1 [⟨S512x512, diag (m ((c : Thread nD τ).loc main_arg2))⟩,
    ⟨S512x512, diag (m ((c : Thread nD τ).loc main_arg4))⟩] concatenates_S512x512_S512x512_S512x1024_d1) bitsLt_bf16_f32 (ix2 q (colX l)) = _
  generalize diag (m ((c : Thread nD τ).loc main_arg2)) = d
  generalize diag (m ((c : Thread nD τ).loc main_arg4)) = d'
  unfold colX
  pointwise

/-- The recurrence's states in the argument arrays. -/
abbrev st (c : Dev nD) (b : Fin 4) (l : Fin 512) : ℕ → EReal :=
  state (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) b l

theorem gate_a (c : Dev nD) (t : Fin cfg0.N) (r : Fin 2048) (l : Fin 512) :
    gpre (iblk m c 0 t) (iblk m c 2 t) (iblk m c 3 t) r (colA l)
      = gate (m ((c : Thread nD τ).loc main_arg0)) (m ((c : Thread nD τ).loc main_arg2)) (m ((c : Thread nD τ).loc main_arg3)) (tb t) (ts t r) l := by
  unfold gpre gate
  rw [rd3a]
  simp only [rd0, rd2a]
  rw [sum_diag]

theorem gate_x (c : Dev nD) (t : Fin cfg0.N) (r : Fin 2048) (l : Fin 512) :
    gpre (iblk m c 0 t) (iblk m c 2 t) (iblk m c 3 t) r (colX l)
      = gate (m ((c : Thread nD τ).loc main_arg0)) (m ((c : Thread nD τ).loc main_arg4)) (m ((c : Thread nD τ).loc main_arg5)) (tb t) (ts t r) l := by
  unfold gpre gate
  rw [rd3x]
  simp only [rd0, rd2x]
  rw [sum_diag]

/-- The block's steps are the recurrence's. -/
theorem st_step (c : Dev nD) (t : Fin cfg0.N) (l : Fin 512) (r : Fin 2048) :
    st m c (tb t) l (t.val % 4 * 2048 + (r.val + 1))
      = Ideal.exp (bL (iblk m c 0 t) (iblk m c 2 t) (iblk m c 3 t) (iblk m c 4 t) r l) * st m c (tb t) l (t.val % 4 * 2048 + r.val)
        + inp (bL (iblk m c 0 t) (iblk m c 2 t) (iblk m c 3 t) (iblk m c 4 t) r l)
          (sgm (gpre (iblk m c 0 t) (iblk m c 2 t) (iblk m c 3 t) r (colX l))) (iblk m c 0 t (ix3 0 r l)) := by
  have hr := r.isLt
  have hp : ps (t.val % 4 * 2048 + r.val) = ts t r := Fin.ext (by
    show (t.val % 4 * 2048 + r.val) % 8192 = t.val % 4 * 2048 + r.val
    omega)
  unfold bL
  rw [gate_a, gate_x, rd4, rd0, ← hp]
  rfl

/-- What a point leaves in the carried state. -/
theorem carried (c : Dev nD) : ∀ (n : ℕ) (hn : n < cfg0.N) (l : Fin 512),
    (outsAt0 m c n hn).2 (ix2 0 l) = st m c (tb ⟨n, hn⟩) l ((n % 4 + 1) * 2048) := by
  intro n
  induction n with
  | zero =>
    intro hn l
    rw [outsAt0_A m c ⟨0, hn⟩ rfl]
    dsimp only
    rw [soutA]
    exact carry_apply _ _ _ _ _ l (fun k => st m c (tb ⟨0, hn⟩) l (0 % 4 * 2048 + k)) (pay3_apply l) (st_step m c ⟨0, hn⟩ l) 256 le_rfl
  | succ n ih =>
    intro hn l
    have hn' : n + 1 < 16 := hn
    have e : (n + 1) % 4 * 2048 + 256 * 8 = ((n + 1) % 4 + 1) * 2048 := by omega
    rw [← e]
    by_cases h0 : (n + 1) % 4 = 0
    · rw [outsAt0_A m c ⟨n + 1, hn⟩ h0]
      dsimp only
      rw [soutA]
      exact carry_apply _ _ _ _ _ l (fun k => st m c (tb ⟨n + 1, hn⟩) l ((n + 1) % 4 * 2048 + k))
        (by rw [pay3_apply, h0]; rfl) (st_step m c ⟨n + 1, hn⟩ l) 256 le_rfl
    · rw [Cert.KernelIdeal.Value.outsAt0_succ, Cert.KernelIdeal.Value.stAt0_B m c ⟨n + 1, hn⟩ _ h0]
      dsimp only
      rw [soutB]
      refine carry_apply _ _ _ _ _ l (fun k => st m c (tb ⟨n + 1, hn⟩) l ((n + 1) % 4 * 2048 + k)) ?_ (st_step m c ⟨n + 1, hn⟩ l) 256 le_rfl
      rw [ih]
      have eb : tb ⟨n, Nat.lt_of_succ_lt hn⟩ = tb ⟨n + 1, hn⟩ := Fin.ext (by show n / 4 = (n + 1) / 4; omega)
      rw [eb]
      exact congrArg _ (by show (n % 4 + 1) * 2048 = (n + 1) % 4 * 2048 + 0; omega)

/-- What a point leaves in the output block. -/
theorem outs (c : Dev nD) (t : Fin cfg0.N) (r : Fin 2048) (l : Fin 512) :
    (outsAt0 m c t.val t.isLt).1 (ix3 0 r l) = spec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (tb t) (ts t r) l := by
  unfold spec
  have hs := fun h h0 => block_apply (iblk m c 0 t) (iblk m c 2 t) (iblk m c 3 t) (iblk m c 4 t) h l
    (fun k => st m c (tb t) l (t.val % 4 * 2048 + k)) h0 (st_step m c t l) r
  by_cases h0 : t.val % 4 = 0
  · rw [outsAt0_A m c t h0]
    dsimp only
    rw [outA, pay2_apply, rd1, hs _ (by rw [pay3_apply, h0]; rfl)]
    rfl
  · obtain ⟨n, hn⟩ := t
    cases n with
    | zero => exact absurd rfl h0
    | succ n =>
      have hn' : n + 1 < 16 := hn
      have h0' : ¬ (n + 1) % 4 = 0 := h0
      show (outsAt0 m c (n + 1) hn).1 _ = _
      rw [Cert.KernelIdeal.Value.outsAt0_succ, Cert.KernelIdeal.Value.stAt0_B m c ⟨n + 1, hn⟩ _ h0]
      dsimp only
      rw [outB, pay2_apply, rd1, hs _ (by
        rw [carried]
        have eb : tb ⟨n, Nat.lt_of_succ_lt hn⟩ = tb ⟨n + 1, hn⟩ := Fin.ext (by show n / 4 = (n + 1) / 4; omega)
        rw [eb]
        exact congrArg _ (by show (n % 4 + 1) * 2048 = (n + 1) % 4 * 2048 + 0; omega))]
      rfl

/-- The result as a function of the argument arrays. -/
def G (c : Dev nD) : FVec Ideal S4x8192x512 .bf16 := fun i =>
  spec (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1) (i 2)

theorem i5 : ∀ t : Fin cfg0.N, win0_5.index t = ![t.val / 4, t.val % 4, 0] := (by decide +kernel : ∀ t : Fin grid0.N, _)

theorem emb5 (t : Fin cfg0.N) (r : Fin 2048) (l : Fin 512) :
    ((cfg0.win 5).blk t).view.emb (ix3 0 r l) = ix3 (tb t) (ts t r) l := by unfold tb ts; blk_ext [i5 t]

/-- The result array after the run. -/
theorem final (c : Dev nD) : (dats m 0 c).arrAt 5 cfg0.N = G m c := by
  refine (dats m 0 c).arrAt_eq_of_covers 5 _ (by decide +kernel) fun t _ y => ?_
  blk_simp
  rw [after0_5]
  obtain ⟨z, r, l, rfl⟩ : ∃ (z : Fin 1) (r : Fin 2048) (l : Fin 512), y = ix3 z r l :=
    ⟨y 0, y 1, y 2, by funext a; fin_cases a <;> rfl⟩
  obtain rfl : z = 0 := Subsingleton.elim _ _
  refine (outs m c t r l).trans ?_
  refine Eq.trans ?_ (congrArg (G m c) (emb5 t r l).symm)
  rfl

/-- The run with the result at that function. -/
theorem run : θ_run defs (onTc (τ := τ) (main (F := Ideal))) ⟨m, fun _ => 0, ρ⟩ fun r => ∀ c : Dev nD,
      r.2.mem ((c : Thread nD τ).loc main_v29) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Lru
end
-- ==== Proof.LruRef.lean ====
/-
  The recurrence reference's result array from the argument arrays.
-/
module

public import proofs.«01_k».proof.Proof.LruValue
public import proofs.«01_k».proof.Proof.Gen.ReferenceIdeal.StepRun
public import Idealize.ShloMosaic.Lib.IdealHost
public import Idealize.ShloMosaic.Lib.DynamicIndex

@[expose] public section

set_option maxRecDepth 16384

noncomputable section

namespace Cert.Lru.Ref

open Idealize.ShloMosaic Idealize.ShloMosaic.TcCoe Idealize.SL.Sem Cert.ReferenceIdeal Cert.ReferenceIdeal.Gen Cert.ReferenceIdeal.Step Cert.Scan

variable (X : FVec Ideal S4x8192x512 .bf16) (Z : FVec Ideal S4x8192x1536 .bf16) (Wa : FVec Ideal S8x64x64 .f32)
  (Ba : FVec Ideal S512 .f32) (Wx : FVec Ideal S8x64x64 .f32) (Bx Lam : FVec Ideal S512 .f32)
  (b : Fin 4) (s : Fin 8192) (l : Fin 512)

theorem v1_apply (n : Fin 8) (q : Fin 64) :
    A_main_v1 (F := Ideal) X Wa Ba Wx Bx Lam (ix4 b s n q) = X (ix3 b s ⟨n.val * 64 + q.val, by omega⟩) := by
  pointwise [A_main_v1, A_main_v0]

theorem v4_apply : A_main_v4 (F := Ideal) X Wa Ba Wx Bx Lam (ix3 b s l) = ∑ q : Fin 64, X (ix3 b s (cq l q)) * Wa (ix3 (cb l) q (ci l)) := by
  have h := v1_apply X Wa Ba Wx Bx Lam b s
  unfold A_main_v4 A_main_v3 A_main_v2
  generalize A_main_v1 (F := Ideal) X Wa Ba Wx Bx Lam = y at h
  pointwise
  exact Finset.sum_congr rfl fun q _ => by rw [h, mul_comm]; rfl

theorem v16_apply : A_main_v16 (F := Ideal) X Wa Ba Wx Bx Lam (ix3 b s l) = ∑ q : Fin 64, X (ix3 b s (cq l q)) * Wx (ix3 (cb l) q (ci l)) := by
  have h := v1_apply X Wa Ba Wx Bx Lam b s
  unfold A_main_v16 A_main_v15 A_main_v14
  generalize A_main_v1 (F := Ideal) X Wa Ba Wx Bx Lam = y at h
  pointwise
  exact Finset.sum_congr rfl fun q _ => by rw [h, mul_comm]; rfl

theorem v13_apply : A_main_v13 (F := Ideal) X Wa Ba Wx Bx Lam (ix3 b s l) = sgm (gate X Wa Ba b s l) := by
  unfold sgm gate
  rw [← v4_apply X Wa Ba Wx Bx Lam]
  simp only [A_main_v13, A_main_v11, A_main_v9, A_main_v8, A_main_v7]
  generalize A_main_v4 (F := Ideal) X Wa Ba Wx Bx Lam = y
  pointwise [A_main_v6, A_main_v5, K_main_v12, K_main_v10, K_main_cst, K_main_cst_0]

theorem v25_apply : A_main_v25 (F := Ideal) X Wa Ba Wx Bx Lam (ix3 b s l) = sgm (gate X Wx Bx b s l) := by
  unfold sgm gate
  rw [← v16_apply X Wa Ba Wx Bx Lam]
  simp only [A_main_v25, A_main_v23, A_main_v21, A_main_v20, A_main_v19]
  generalize A_main_v16 (F := Ideal) X Wa Ba Wx Bx Lam = y
  pointwise [A_main_v18, A_main_v17, K_main_v24, K_main_v22, K_main_cst_1, K_main_cst_2]

theorem v29_apply : A_main_v29 (F := Ideal) X Wa Ba Wx Bx Lam (ix1 l) = softplus (-(Lam (ix1 l))) := by
  unfold softplus
  pointwise [A_main_v29, A_main_v28, A_main_call0_v1, A_main_call0_v3, A_main_call0_v4, A_main_call0_v6, A_main_call0_v7,
    A_main_call0_v8, A_main_call0_v9, A_main_call0_v10, A_main_call0_v11, K_main_call0_cst, K_main_call0_v0, K_main_call0_v2,
    K_main_call0_v5]
  rw [if_neg (fun h => h rfl)]
  rfl

theorem v32_apply : A_main_v32 (F := Ideal) X Wa Ba Wx Bx Lam (ix3 b s l) = ex X Wa Ba Lam b s l := by
  unfold ex dec
  rw [← v29_apply X Wa Ba Wx Bx Lam, ← v13_apply X Wa Ba Wx Bx Lam]
  simp only [A_main_v32, A_main_v31, A_main_v30, A_main_v27]
  generalize A_main_v29 (F := Ideal) X Wa Ba Wx Bx Lam = y
  generalize A_main_v13 (F := Ideal) X Wa Ba Wx Bx Lam = z
  pointwise [K_main_v26, K_main_cst_3]
  rw [neg_eight_f32]

theorem v33_apply : A_main_v33 (F := Ideal) X Wa Ba Wx Bx Lam (ix3 b s l) = Ideal.exp (ex X Wa Ba Lam b s l) := by
  rw [← v32_apply X Wa Ba Wx Bx Lam]
  rfl

theorem v40_apply : A_main_v40 (F := Ideal) X Wa Ba Wx Bx Lam (ix3 b s l) = drive X Wa Ba Wx Bx Lam b s l := by
  unfold drive inp
  rw [← v32_apply X Wa Ba Wx Bx Lam, ← v25_apply X Wa Ba Wx Bx Lam]
  simp only [A_main_v40, A_main_v39, A_main_v38, A_main_v37, A_main_v36, A_main_v35]
  generalize A_main_v32 (F := Ideal) X Wa Ba Wx Bx Lam = y
  generalize A_main_v25 (F := Ideal) X Wa Ba Wx Bx Lam = z
  pointwise [A_main_v0, K_main_v34, K_main_cst_4]
  rw [two_f32]

/-- A trip's row starts at the trip's number. -/
theorem start_row (j : ℕ) (hj : j < 8192) (S : State Ideal) (a : Fin 3) :
    (((![b8 j S, b7 j S, b9 j S] : Fin 3 → (⟨S_, .i32⟩ : BufTy).Contents (Elt Ideal)) a) (Shape.Idx.first h_S_)).toInt
      = ((![0, j, 0] : Fin 3 → ℕ) a : Int) := by
  fin_cases a
  · rfl
  · exact toInt_wrap_ofNat j (by omega)
  · rfl

theorem fits (j : ℕ) (hj : j < 8192) : S4x8192x512.Slices ![0, j, 0] S4x1x512 :=
  ⟨rfl, fun a => by
    fin_cases a
    · show 0 + 4 ≤ 4; omega
    · show j + 1 ≤ 8192; omega
    · show 0 + 512 ≤ 512; omega⟩

theorem b23_apply (j : ℕ) (hj : j < 8192) (S : State Ideal) :
    b23 j S (ix2 b l) = S.main_v45_0 (ix3 b ⟨j, hj⟩ l) * S.main_v45_5 (ix2 b l) + S.main_v45_1 (ix3 b ⟨j, hj⟩ l) := by
  have e10 : b10 j S = extractStridedSlice S4x1x512 ![0, j, 0] S.main_v45_0 (fits j hj) :=
    Host.dynamicSlice_eq_extractStridedSlice S4x1x512 S.main_v45_0 _ ![0, j, 0] _ (fits j hj) (start_row j hj S)
  have e21 : b21 j S = extractStridedSlice S4x1x512 ![0, j, 0] S.main_v45_1 (fits j hj) :=
    Host.dynamicSlice_eq_extractStridedSlice S4x1x512 S.main_v45_1 _ ![0, j, 0] _ (fits j hj) (start_row j hj S)
  unfold b23 b22 b12 b11
  rw [e10, e21]
  obtain ⟨h, hs, A, U⟩ := S
  dsimp only
  pointwise

theorem b30_apply (j : ℕ) (hj : j < 8192) (S : State Ideal) :
    b30 j S (ix3 b s l) = if s.val = j then b23 j S (ix2 b l) else S.main_v45_6 (ix3 b s l) := by
  unfold b30 b29 b28 b27 b26 b25 b24
  generalize b23 j S = y
  obtain ⟨h, hs, A, U⟩ := S
  dsimp only
  pointwise [K_main_v42, K_main_v41, hlo_ix]
  have e : (BitVec.ofNat 32 s.val).toNat = s.val := by
    rw [BitVec.toNat_ofNat]; exact Nat.mod_eq_of_lt (by omega)
  have e' : BitVec.toNat (id (constantI S_ 32 (BitVec.ofNat 32 j)) ix0) = j := by
    show (BitVec.ofNat 32 j).toNat = j
    rw [BitVec.toNat_ofNat]; exact Nat.mod_eq_of_lt (by omega)
  rw [e, e']

theorem R_apply (S : State Ideal) :
    R_main_v62 S Z (ix3 b s l) = S.main_v45_6 (ix3 b s l) * gelu (Z (ix3 b s ⟨1024 + l.val, by omega⟩)) := by
  obtain ⟨h, hs, A, U⟩ := S
  unfold gelu
  pointwise [R_main_v62]

/-- The states of the loop. -/
def it (m : (ℓ : Loc nD τ sig) → Buf (Elt Ideal) ℓ) (c : Dev nD) (n : ℕ) : State Ideal :=
  Nat.rec (StepRun.initState m c) (fun n p => step n p) n

/-- What the loop has computed before trip `k`. -/
theorem it_apply (m : (ℓ : Loc nD τ sig) → Buf (Elt Ideal) ℓ) (c : Dev nD)
    (eX : m ((c : Thread nD τ).loc main_arg0) = X) (eWa : m ((c : Thread nD τ).loc main_arg2) = Wa)
    (eBa : m ((c : Thread nD τ).loc main_arg3) = Ba) (eWx : m ((c : Thread nD τ).loc main_arg4) = Wx)
    (eBx : m ((c : Thread nD τ).loc main_arg5) = Bx) (eL : m ((c : Thread nD τ).loc main_arg6) = Lam) (k : ℕ) (hk : k ≤ 8192) :
    (∀ b s l, (it m c k).main_v45_0 (ix3 b s l) = Ideal.exp (ex X Wa Ba Lam b s l))
    ∧ (∀ b s l, (it m c k).main_v45_1 (ix3 b s l) = drive X Wa Ba Wx Bx Lam b s l)
    ∧ (∀ b l, (it m c k).main_v45_5 (ix2 b l) = state X Wa Ba Wx Bx Lam b l k)
    ∧ (∀ b s l, s.val < k → (it m c k).main_v45_6 (ix3 b s l) = state X Wa Ba Wx Bx Lam b l (s.val + 1)) := by
  induction k with
  | zero =>
    subst eX eWa eBa eWx eBx eL
    refine ⟨fun b s l => v33_apply _ _ _ _ _ _ b s l, fun b s l => v40_apply _ _ _ _ _ _ b s l, fun b l => ?_, fun b s l h => absurd h (by omega)⟩
    show K_main_v43 (F := Ideal) (ix2 b l) = 0
    pointwise [K_main_v43, K_main_cst_5]
  | succ k ih =>
    obtain ⟨hA, hU, hh, hs⟩ := ih (by omega)
    have e5 : ∀ b l, b23 k (it m c k) (ix2 b l) = state X Wa Ba Wx Bx Lam b l (k + 1) := by
      intro b l
      have hp : ps k = ⟨k, by omega⟩ := Fin.ext (Nat.mod_eq_of_lt (by omega))
      rw [b23_apply b l k (by omega), hA, hU, hh, ← hp]
      rfl
    refine ⟨hA, hU, e5, fun b s l h => ?_⟩
    show b30 k (it m c k) (ix3 b s l) = _
    rw [b30_apply b s l k (by omega)]
    by_cases e : s.val = k
    · rw [if_pos e, e5, e]
    · rw [if_neg e, hs b s l (by omega)]

end Cert.Lru.Ref
end
-- ==== Proof.LruClaim.lean ====
/-
  The value claim of the recurrence call: both programs run and leave the same array.
-/
module

public import proofs.«01_k».proof.Defs
public import proofs.«01_k».proof.Proof.LruValue
public import proofs.«01_k».proof.Proof.LruRef

@[expose] public section

set_option maxRecDepth 16384

noncomputable section

namespace Cert.Lru

open Idealize.ShloMosaic Idealize.ShloMosaic.TcCoe Idealize.SL.Sem

theorem claim : @Cert.algebraic_KernelIdeal_ReferenceIdeal Cert.KernelIdeal.Gen.facts Cert.ReferenceIdeal.Gen.facts := by
  intro m g m' g' _ hm
  refine ⟨fun c => G m c, run m g, ?_⟩
  refine (θ_run _ _ _).mono (fun r h c => ⟨(h c).1.trans ?_, (h c).2⟩)
    (Cert.ReferenceIdeal.StepRun.run_iter m' g' (Ref.it m') (fun c => rfl) (fun c n => rfl))
  obtain ⟨e0, e1, e2, e3, e4, e5, e6⟩ := hm c
  have hit := Ref.it_apply _ _ _ _ _ _ m' c e0 e2 e3 e4 e5 e6 8192 le_rfl
  rw [e1]
  funext i
  obtain ⟨b, s, l, rfl⟩ : ∃ (b : Fin 4) (s : Fin 8192) (l : Fin 512), i = ix3 b s l :=
    ⟨i 0, i 1, i 2, by funext a; fin_cases a <;> rfl⟩
  refine (Ref.R_apply _ b s l _).trans ?_
  rw [hit.2.2.2 b s l s.isLt]
  rfl

end Cert.Lru
end
-- ==== Proof.MergeSpec.lean ====
/-
  One token of the merge and feed-forward layer as plain functions of the token's rows and the weights.
-/
module

public import Idealize.ShloMosaic.Lib.Pointwise
public import Idealize.ShloMosaic.Lib.Pipeline.ValueKit

@[expose] public section

noncomputable section

namespace Cert.Merge

open Idealize.ShloMosaic

/-- A row vector times a matrix. -/
def mm {K N : Nat} (f : Fin K → EReal) (w : Fin K → Fin N → EReal) (j : Fin N) : EReal := ∑ k, f k * w k j

/-- Root mean square normalization of a row of 1024. -/
def rms (v : Fin 1024 → EReal) (j : Fin 1024) : EReal :=
  v j * Ideal.rsqrt (Ideal.div (∑ k, v k * v k) (Ideal.ofBits .f32 0x44800000#32) + Ideal.ofBits .f32 0x358637BD#32)

/-- One branch's gated projection. -/
def branch (g : Fin 1024 → EReal) (y : Fin 512 → EReal) (w : Fin 512 → Fin 1024 → EReal) (j : Fin 1024) : EReal :=
  Ideal.logistic (g j) * mm y w j

/-- The residual stream after the merge. -/
def x1 (m x gt1 : Fin 1024 → EReal) (wo : Fin 1024 → Fin 1024 → EReal) (j : Fin 1024) : EReal :=
  x j + gt1 j * mm m wo j

/-- The modulated normalization. -/
def hid (v nw sc sh : Fin 1024 → EReal) (j : Fin 1024) : EReal :=
  rms v j * nw j * (Ideal.ofBits .f32 0x3F800000#32 + sc j) + sh j

/-- The squared rectifier. -/
def sq (a : EReal) : EReal := max a (Ideal.ofBits .f32 0x00000000#32) * max a (Ideal.ofBits .f32 0x00000000#32)

/-- The feed-forward part over `K` hidden columns. -/
def ff {K : Nat} (h : Fin 1024 → EReal) (wu : Fin 1024 → Fin K → EReal) (wd : Fin K → Fin 1024 → EReal)
    (j : Fin 1024) : EReal := mm (fun f => sq (mm h wu f)) wd j

/-- The final row. -/
def fin (v gt2 a fnw : Fin 1024 → EReal) (j : Fin 1024) : EReal := rms (fun k => v k + gt2 k * a k) j * fnw j

/-- The whole token. -/
def token (gl : Fin 3 → Fin 1024 → EReal) (y : Fin 3 → Fin 512 → EReal) (x gt1 nw sc sh gt2 fnw : Fin 1024 → EReal)
    (wb : Fin 3 → Fin 512 → Fin 1024 → EReal) (wo : Fin 1024 → Fin 1024 → EReal) (wu : Fin 1024 → Fin 4096 → EReal)
    (wd : Fin 4096 → Fin 1024 → EReal) (j : Fin 1024) : EReal :=
  let v := x1 (fun k => branch (gl 0) (y 0) (wb 0) k + branch (gl 1) (y 1) (wb 1) k + branch (gl 2) (y 2) (wb 2) k) x gt1 wo
  fin v gt2 (ff (hid v nw sc sh) wu wd) fnw j

/-- The feed-forward part is the sum of its four quarters. -/
theorem ff_quarters (h : Fin 1024 → EReal) (wu : Fin 1024 → Fin 4096 → EReal) (wd : Fin 4096 → Fin 1024 → EReal)
    (j : Fin 1024) :
    ff h wu wd j
      = ff h (fun k (f : Fin 1024) => wu k ⟨f.val, by omega⟩) (fun f => wd ⟨f.val, by omega⟩) j
        + ff h (fun k (f : Fin 1024) => wu k ⟨1024 + f.val, by omega⟩) (fun f => wd ⟨1024 + f.val, by omega⟩) j
        + ff h (fun k (f : Fin 1024) => wu k ⟨2048 + f.val, by omega⟩) (fun f => wd ⟨2048 + f.val, by omega⟩) j
        + ff h (fun k (f : Fin 1024) => wu k ⟨3072 + f.val, by omega⟩) (fun f => wd ⟨3072 + f.val, by omega⟩) j := by
  unfold ff mm
  rw [Fin.sum_univ_tiles 4 1024 (by norm_num), Fin.sum_univ_four]
  rfl

end Cert.Merge
end
-- ==== Proof.MergeKernel.lean ====
module

public import proofs.«01_k».proof.Proof.MergeSpec
public import proofs.«01_k».proof.Proof.Gen.Kernel2Ideal.Skeleton

@[expose] public section

set_option maxRecDepth 16384

noncomputable section

namespace Cert.Merge

open Idealize.ShloMosaic Cert.Kernel2Ideal Cert.Kernel2Ideal.Gen

theorem pay1_apply (v42 v99 v102 : FVec Ideal S512x1024 .f32) (v107 : Vec Ideal S1024x1024 .bf16)
    (v111 : Vec Ideal S1x1x1024 .f32) (v126 : Vec Ideal S1x1024 .f32) (r : Fin 512) (l : Fin 1024) :
    k0_pay1 v42 v99 v102 v107 v111 v126 (ix3 0 r l)
      = fin (fun k => v42 (ix2 r k)) (fun k => v111 (ix3 0 0 k))
          (fun k => v99 (ix2 r k) + mm (fun f => sq (v102 (ix2 r f))) (fun f c => v107 (ix2 f c)) k)
          (fun k => v126 (ix2 0 k)) l := by
  unfold fin rms mm sq
  pointwise [k0_pay1]

theorem pay2_apply (v0 : Vec Ideal S1x512x512 .bf16) (v2 v5 : Vec Ideal S1x512x1024 .bf16)
    (v10 : Vec Ideal S1x512x512 .bf16) (v12 v15 : Vec Ideal S1x512x1024 .bf16) (r : Fin 512) (l : Fin 1024) :
    k0_pay2 v0 v2 v5 v10 v12 v15 (ix2 r l)
      = branch (fun k => v5 (ix3 0 r k)) (fun k => v0 (ix3 0 r k)) (fun k c => v2 (ix3 0 k c)) l
        + branch (fun k => v15 (ix3 0 r k)) (fun k => v10 (ix3 0 r k)) (fun k c => v12 (ix3 0 k c)) l := by
  unfold branch mm
  pointwise [k0_pay2]

theorem pay3_apply (v21 : Vec Ideal S1x512x512 .bf16) (v23 : Vec Ideal S1x512x1024 .bf16) (r : Fin 512) (l : Fin 1024) :
    k0_pay3 v21 v23 (ix2 r l) = mm (fun k => v21 (ix3 0 r k)) (fun k c => v23 (ix3 0 k c)) l := by
  unfold mm
  pointwise [k0_pay3]

theorem pay4_apply (v26 : Vec Ideal S1x512x1024 .bf16) (r : Fin 512) (l : Fin 1024) :
    k0_pay4 v26 (ix2 r l) = v26 (ix3 0 r l) := by
  pointwise [k0_pay4]

theorem pay5_apply (v20 v25 : FVec Ideal S512x1024 .f32) (v27 : FVec Ideal S512x1024 .bf16)
    (v33 : Vec Ideal S1024x1024 .bf16) (v36 : Vec Ideal S1x512x1024 .f32) (v38 : Vec Ideal S1x1x1024 .f32)
    (r : Fin 512) (l : Fin 1024) :
    k0_pay5 v20 v25 v27 v33 v36 v38 (ix2 r l)
      = x1 (fun k => v20 (ix2 r k) + Ideal.logistic (v27 (ix2 r k)) * v25 (ix2 r k)) (fun k => v36 (ix3 0 r k))
          (fun k => v38 (ix3 0 0 k)) (fun k c => v33 (ix2 k c)) l := by
  unfold x1 mm
  pointwise [k0_pay5]

theorem pay6_apply (v20 v25 : FVec Ideal S512x1024 .f32) (v27 : FVec Ideal S512x1024 .bf16)
    (v33 : Vec Ideal S1024x1024 .bf16) (v36 : Vec Ideal S1x512x1024 .f32) (v38 : Vec Ideal S1x1x1024 .f32)
    (v53 : Vec Ideal S1x1024 .f32) (v57 v63 : Vec Ideal S1x1x1024 .f32) (r : Fin 512) (l : Fin 1024) :
    k0_pay6 v20 v25 v27 v33 v36 v38 v53 v57 v63 (ix2 r l)
      = hid (fun k => k0_pay5 v20 v25 v27 v33 v36 v38 (ix2 r k)) (fun k => v53 (ix2 0 k)) (fun k => v57 (ix3 0 0 k))
          (fun k => v63 (ix3 0 0 k)) l := by
  unfold hid rms k0_pay6
  generalize k0_pay5 v20 v25 v27 v33 v36 v38 = x
  pointwise

theorem pay8_apply (v66 : FVec Ideal S512x1024 .f32) (v68 v75 v78 v85 v89 v96 : Vec Ideal S1024x1024 .bf16)
    (r : Fin 512) (l : Fin 1024) :
    k0_pay8 v66 v68 v75 v78 v85 v89 v96 (ix2 r l)
      = ff (fun k => v66 (ix2 r k)) (fun k c => v68 (ix2 k c)) (fun k c => v75 (ix2 k c)) l
        + ff (fun k => v66 (ix2 r k)) (fun k c => v78 (ix2 k c)) (fun k c => v85 (ix2 k c)) l
        + ff (fun k => v66 (ix2 r k)) (fun k c => v89 (ix2 k c)) (fun k c => v96 (ix2 k c)) l := by
  unfold ff sq mm
  pointwise [k0_pay8, k0_pay7]

theorem pay9_apply (v66 : FVec Ideal S512x1024 .f32) (v100 : Vec Ideal S1024x1024 .bf16) (r : Fin 512) (l : Fin 1024) :
    k0_pay9 v66 v100 (ix2 r l) = mm (fun k => v66 (ix2 r k)) (fun k c => v100 (ix2 k c)) l := by
  unfold mm
  pointwise [k0_pay9, k0_pay7]

end Cert.Merge
end
-- ==== Proof.MergeValue.lean ====
/-
  The merge kernel's result array: every token of it is `token` of that token's rows of the argument arrays.
-/
module

public import proofs.«01_k».proof.Proof.MergeKernel
public import proofs.«01_k».proof.Proof.Gen.Kernel2Ideal.Value
public import Idealize.ShloMosaic.Lib.Claim

@[expose] public section

set_option maxRecDepth 16384

noncomputable section

namespace Cert.Merge

open Idealize.ShloMosaic Idealize.ShloMosaic.TcCoe Idealize.SL.Sem Cert.Kernel2Ideal Cert.Kernel2Ideal.Gen

/-- A lane of a row of three times 1024. -/
def lane3 (q : Fin 3) (k : Fin 1024) : Fin 3072 := ⟨q.val * 1024 + k.val, by omega⟩

/-- Lane `k` of slice `j` of the six modulation vectors. -/
def lane6 (j : Fin 6) (k : Fin 1024) : Fin 6144 := ⟨j.val * 1024 + k.val, by omega⟩

/-- One element of the result from the argument arrays. -/
def spec (a0 a1 a2 : FVec Ideal S4x8192x512 .bf16) (a3 : FVec Ideal S4x8192x3072 .bf16) (a4 : FVec Ideal S4x8192x1024 .f32)
    (a5 : FVec Ideal S4x6144 .f32) (a6 : FVec Ideal S1024 .f32) (a7 : FVec Ideal S3x512x1024 .f32)
    (a8 : FVec Ideal S1024x1024 .f32) (a9 : FVec Ideal S1024x4096 .f32) (a10 : FVec Ideal S4096x1024 .f32)
    (a11 : FVec Ideal S1024 .f32) (b : Fin 4) (s : Fin 8192) (l : Fin 1024) : EReal :=
  token (fun q k => a3 (ix3 b s (lane3 q k)))
    (fun q k => if q = 0 then a0 (ix3 b s k) else if q = 1 then a1 (ix3 b s k) else a2 (ix3 b s k))
    (fun k => a4 (ix3 b s k)) (fun k => a5 (ix2 b (lane6 2 k))) (fun k => a6 (ix1 k)) (fun k => a5 (ix2 b (lane6 4 k)))
    (fun k => a5 (ix2 b (lane6 3 k))) (fun k => a5 (ix2 b (lane6 5 k))) (fun k => a11 (ix1 k))
    (fun q k c => a7 (ix3 q k c)) (fun k c => a8 (ix2 k c)) (fun k c => a9 (ix2 k c)) (fun k c => a10 (ix2 k c)) l

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at one element. -/
theorem out_apply (x0 x1' x2 : Vec Ideal S1x512x512 .bf16) (x3 : Vec Ideal S1x512x3072 .bf16)
    (x4 : Vec Ideal S1x512x1024 .f32) (x5 : Vec Ideal S1x1x1024 .f32) (x6 : Vec Ideal S1x1024 .f32)
    (x7 x8 x9 : Vec Ideal S1x1x1024 .f32) (x10 : Vec Ideal S3x512x1024 .bf16) (x11 : Vec Ideal S1024x1024 .bf16)
    (x12 : Vec Ideal S1024x4096 .bf16) (x13 : Vec Ideal S4096x1024 .bf16) (x14 : Vec Ideal S1x1024 .f32)
    (r : Fin 512) (l : Fin 1024) :
    out0_15 x0 x1' x2 x3 x4 x5 x6 x7 x8 x9 x10 x11 x12 x13 x14 (ix3 0 r l)
      = token (fun q k => x3 (ix3 0 r (lane3 q k)))
          (fun q k => if q = 0 then x0 (ix3 0 r k) else if q = 1 then x1' (ix3 0 r k) else x2 (ix3 0 r k))
          (fun k => x4 (ix3 0 r k)) (fun k => x5 (ix3 0 0 k)) (fun k => x6 (ix2 0 k)) (fun k => x7 (ix3 0 0 k))
          (fun k => x8 (ix3 0 0 k)) (fun k => x9 (ix3 0 0 k)) (fun k => x14 (ix2 0 k))
          (fun q k c => x10 (ix3 q k c)) (fun k c => x11 (ix2 k c)) (fun k c => x12 (ix2 k c)) (fun k c => x13 (ix2 k c)) l := by
  unfold_out out0_15
  rw [View.canon_unit_zero hz3]
  simp only [View.ld_unit_zero (S := S1x512x512) hz3, View.ld_unit_zero (S := S1024x1024) hz2,
    View.ld_unit_zero (S := S1x512x1024) hz3, View.ld_unit_zero (S := S1x1x1024) hz3, View.ld_unit_zero (S := S1x1024) hz2]
  simp only [pay1_apply, pay8_apply, pay9_apply, pay6_apply, pay5_apply, pay4_apply, pay3_apply, pay2_apply]
  unfold token
  have g0 : ∀ k, View.ld x3 r0_2 (ix3 0 r k) = x3 (ix3 0 r (lane3 0 k)) := fun k => by pointwise; blk_ext; simp [lane3]
  have g1 : ∀ k, View.ld x3 r0_4 (ix3 0 r k) = x3 (ix3 0 r (lane3 1 k)) := fun k => by pointwise; blk_ext; simp [lane3]
  have g2 : ∀ k, View.ld x3 r0_6 (ix3 0 r k) = x3 (ix3 0 r (lane3 2 k)) := fun k => by pointwise; blk_ext; simp [lane3]
  have w0 : ∀ k c, View.ld x10 r0_1 (ix3 0 k c) = x10 (ix3 0 k c) := fun k c => by pointwise; blk_ext
  have w1 : ∀ k c, View.ld x10 r0_3 (ix3 0 k c) = x10 (ix3 1 k c) := fun k c => by pointwise; blk_ext
  have w2 : ∀ k c, View.ld x10 r0_5 (ix3 0 k c) = x10 (ix3 2 k c) := fun k c => by pointwise; blk_ext
  have u0 : ∀ k (c : Fin 1024), View.ld x12 r0_11 (ix2 k c) = x12 (ix2 k ⟨c.val, by omega⟩) := fun k c => by pointwise; blk_ext
  have u1 : ∀ k (c : Fin 1024), View.ld x12 r0_13 (ix2 k c) = x12 (ix2 k ⟨1024 + c.val, by omega⟩) := fun k c => by pointwise; blk_ext
  have u2 : ∀ k (c : Fin 1024), View.ld x12 r0_15 (ix2 k c) = x12 (ix2 k ⟨2048 + c.val, by omega⟩) := fun k c => by pointwise; blk_ext
  have u3 : ∀ k (c : Fin 1024), View.ld x12 r0_17 (ix2 k c) = x12 (ix2 k ⟨3072 + c.val, by omega⟩) := fun k c => by pointwise; blk_ext
  have d0 : ∀ (k : Fin 1024) c, View.ld x13 r0_12 (ix2 k c) = x13 (ix2 ⟨k.val, by omega⟩ c) := fun k c => by pointwise; blk_ext
  have d1 : ∀ (k : Fin 1024) c, View.ld x13 r0_14 (ix2 k c) = x13 (ix2 ⟨1024 + k.val, by omega⟩ c) := fun k c => by pointwise; blk_ext
  have d2 : ∀ (k : Fin 1024) c, View.ld x13 r0_16 (ix2 k c) = x13 (ix2 ⟨2048 + k.val, by omega⟩ c) := fun k c => by pointwise; blk_ext
  have d3 : ∀ (k : Fin 1024) c, View.ld x13 r0_18 (ix2 k c) = x13 (ix2 ⟨3072 + k.val, by omega⟩ c) := fun k c => by pointwise; blk_ext
  simp only [g0, g1, g2, w0, w1, w2, u0, u1, u2, u3, d0, d1, d2, d3]
  refine congrArg (fun a => fin _ _ a _ l) (funext fun j => ?_)
  rw [ff_quarters]
  rfl

variable (m : (ℓ : Loc nD τ sig) → Buf (Elt Ideal) ℓ) (ρ : Dev nD → PrngReg)

/-- The batch of a grid point. -/
def tb (t : Fin cfg0.N) : Fin 4 := ⟨t.val / 16, by have : t.val < 64 := t.isLt; omega⟩

/-- The sequence position of row `r` of a grid point's block. -/
def ts (t : Fin cfg0.N) (r : Fin 512) : Fin 8192 := ⟨t.val % 16 * 512 + r.val, by omega⟩

theorem i0 : ∀ t : Fin cfg0.N, win0_0.index t = ![t.val / 16, t.val % 16, 0] := (by decide +kernel : ∀ t : Fin grid0.N, _)
theorem i1 : ∀ t : Fin cfg0.N, win0_1.index t = ![t.val / 16, t.val % 16, 0] := (by decide +kernel : ∀ t : Fin grid0.N, _)
theorem i2 : ∀ t : Fin cfg0.N, win0_2.index t = ![t.val / 16, t.val % 16, 0] := (by decide +kernel : ∀ t : Fin grid0.N, _)
theorem i3 : ∀ t : Fin cfg0.N, win0_3.index t = ![t.val / 16, t.val % 16, 0] := (by decide +kernel : ∀ t : Fin grid0.N, _)
theorem i4 : ∀ t : Fin cfg0.N, win0_4.index t = ![t.val / 16, t.val % 16, 0] := (by decide +kernel : ∀ t : Fin grid0.N, _)
theorem i5 : ∀ t : Fin cfg0.N, win0_5.index t = ![t.val / 16, 0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![t.val / 16, 0, 0] := (by decide +kernel : ∀ t : Fin grid0.N, _)
theorem i8 : ∀ t : Fin cfg0.N, win0_8.index t = ![t.val / 16, 0, 0] := (by decide +kernel : ∀ t : Fin grid0.N, _)
theorem i9 : ∀ t : Fin cfg0.N, win0_9.index t = ![t.val / 16, 0, 0] := (by decide +kernel : ∀ t : Fin grid0.N, _)
theorem i10 : ∀ t : Fin cfg0.N, win0_10.index t = ![0, 0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![0, 0] := (by decide +kernel : ∀ t : Fin grid0.N, _)
theorem i13 : ∀ t : Fin cfg0.N, win0_13.index t = ![0, 0] := (by decide +kernel : ∀ t : Fin grid0.N, _)
theorem i14 : ∀ t : Fin cfg0.N, win0_14.index t = ![0, 0] := (by decide +kernel : ∀ t : Fin grid0.N, _)
theorem i15 : ∀ t : Fin cfg0.N, win0_15.index t = ![t.val / 16, t.val % 16, 0] := (by decide +kernel : ∀ t : Fin grid0.N, _)

theorem emb15 (t : Fin cfg0.N) (r : Fin 512) (l : Fin 1024) :
    ((cfg0.win 15).blk t).view.emb (ix3 0 r l) = ix3 (tb t) (ts t r) l := by unfold tb ts; blk_ext [i15 t]

theorem rd0 (c : Dev nD) (t : Fin cfg0.N) (r : Fin 512) (k : Fin 512) :
    iblk m c 0 t (ix3 0 r k) = m ((c : Thread nD τ).loc main_arg0) (ix3 (tb t) (ts t r) k) := by
  unfold tb ts; blk_ext [iblk, V, i0 t]
theorem rd1 (c : Dev nD) (t : Fin cfg0.N) (r : Fin 512) (k : Fin 512) :
    iblk m c 1 t (ix3 0 r k) = m ((c : Thread nD τ).loc main_arg1) (ix3 (tb t) (ts t r) k) := by
  unfold tb ts; blk_ext [iblk, V, i1 t]
theorem rd2 (c : Dev nD) (t : Fin cfg0.N) (r : Fin 512) (k : Fin 512) :
    iblk m c 2 t (ix3 0 r k) = m ((c : Thread nD τ).loc main_arg2) (ix3 (tb t) (ts t r) k) := by
  unfold tb ts; blk_ext [iblk, V, i2 t]
theorem rd3 (c : Dev nD) (t : Fin cfg0.N) (r : Fin 512) (k : Fin 3072) :
    iblk m c 3 t (ix3 0 r k) = m ((c : Thread nD τ).loc main_arg3) (ix3 (tb t) (ts t r) k) := by
  unfold tb ts; blk_ext [iblk, V, i3 t]
theorem rd4 (c : Dev nD) (t : Fin cfg0.N) (r : Fin 512) (k : Fin 1024) :
    iblk m c 4 t (ix3 0 r k) = m ((c : Thread nD τ).loc main_arg4) (ix3 (tb t) (ts t r) k) := by
  unfold tb ts; blk_ext [iblk, V, i4 t]
theorem rd5 (c : Dev nD) (t : Fin cfg0.N) (k : Fin 1024) :
    iblk m c 5 t (ix3 0 0 k) = m ((c : Thread nD τ).loc main_arg5) (ix2 (tb t) (lane6 2 k)) := by
  blk_simp [iblk]; entry_read; pointwise; unfold tb lane6; blk_ext [i5 t]
theorem rd6 (c : Dev nD) (t : Fin cfg0.N) (k : Fin 1024) :
    iblk m c 6 t (ix2 0 k) = m ((c : Thread nD τ).loc main_arg6) (ix1 k) := by
  blk_simp [iblk]; entry_read; pointwise; blk_ext [i6 t]
theorem rd10 (c : Dev nD) (t : Fin cfg0.N) (q : Fin 3) (k : Fin 512) (l : Fin 1024) :
    iblk m c 10 t (ix3 q k l) = m ((c : Thread nD τ).loc main_arg7) (ix3 q k l) := by
  blk_simp [iblk]; entry_read; pointwise; blk_ext [i10 t]

theorem rd7 (c : Dev nD) (t : Fin cfg0.N) (k : Fin 1024) :
    iblk m c 7 t (ix3 0 0 k) = m ((c : Thread nD τ).loc main_arg5) (ix2 (tb t) (lane6 4 k)) := by
  blk_simp [iblk]; entry_read; pointwise; unfold tb lane6; blk_ext [i7 t]
theorem rd8 (c : Dev nD) (t : Fin cfg0.N) (k : Fin 1024) :
    iblk m c 8 t (ix3 0 0 k) = m ((c : Thread nD τ).loc main_arg5) (ix2 (tb t) (lane6 3 k)) := by
  blk_simp [iblk]; entry_read; pointwise; unfold tb lane6; blk_ext [i8 t]
theorem rd9 (c : Dev nD) (t : Fin cfg0.N) (k : Fin 1024) :
    iblk m c 9 t (ix3 0 0 k) = m ((c : Thread nD τ).loc main_arg5) (ix2 (tb t) (lane6 5 k)) := by
  blk_simp [iblk]; entry_read; pointwise; unfold tb lane6; blk_ext [i9 t]
theorem rd11 (c : Dev nD) (t : Fin cfg0.N) (k : Fin 1024) (l : Fin 1024) :
    iblk m c 11 t (ix2 k l) = m ((c : Thread nD τ).loc main_arg8) (ix2 k l) := by
  blk_simp [iblk]; entry_read; pointwise; blk_ext [i11 t]
theorem rd12 (c : Dev nD) (t : Fin cfg0.N) (k : Fin 1024) (l : Fin 4096) :
    iblk m c 12 t (ix2 k l) = m ((c : Thread nD τ).loc main_arg9) (ix2 k l) := by
  blk_simp [iblk]; entry_read; pointwise; blk_ext [i12 t]
theorem rd13 (c : Dev nD) (t : Fin cfg0.N) (k : Fin 4096) (l : Fin 1024) :
    iblk m c 13 t (ix2 k l) = m ((c : Thread nD τ).loc main_arg10) (ix2 k l) := by
  blk_simp [iblk]; entry_read; pointwise; blk_ext [i13 t]
theorem rd14 (c : Dev nD) (t : Fin cfg0.N) (k : Fin 1024) :
    iblk m c 14 t (ix2 0 k) = m ((c : Thread nD τ).loc main_arg11) (ix1 k) := by
  blk_simp [iblk]; entry_read; pointwise; blk_ext [i14 t]

/-- The result as a function of the argument arrays. -/
def G (c : Dev nD) : FVec Ideal S4x8192x1024 .f32 := fun i =>
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (i 0) (i 1) (i 2)

theorem point (c : Dev nD) (t : Fin cfg0.N) (y : S1x512x1024.Idx) :
    out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) y = G m c (((cfg0.win 15).blk t).view.emb y) := by
  obtain ⟨z, r, l, rfl⟩ : ∃ (z : Fin 1) (r : Fin 512) (l : Fin 1024), y = ix3 z r l :=
    ⟨y 0, y 1, y 2, by funext a; fin_cases a <;> rfl⟩
  obtain rfl : z = 0 := Subsingleton.elim _ _
  rw [out_apply, emb15]
  simp only [rd0, rd1, rd2, rd3, rd4, rd5, rd6, rd7, rd8, rd9, rd10, rd11, rd12, rd13, rd14]
  rfl

/-- The result array after the run. -/
theorem final (c : Dev nD) : (dats m 0 c).arrAt 15 cfg0.N = G m c := by
  refine (dats m 0 c).arrAt_eq_of_covers 15 _ (by decide +kernel) fun t _ y => ?_
  blk_simp
  rw [after0_15]
  exact point m c t y

/-- The run with the result at that function. -/
theorem run : θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.Kernel2Ideal.Value.run_blocks m ρ)

end Cert.Merge
end
-- ==== Proof.MergeRef.lean ====
/-
  The merge reference's result array: every token of it is `token` of that token's rows of the argument arrays.
-/
module

public import proofs.«01_k».proof.Proof.MergeSpec
public import proofs.«01_k».proof.Proof.Gen.Reference2Ideal.Read
public import Idealize.ShloMosaic.Lib.IdealHost

@[expose] public section

set_option maxRecDepth 16384

noncomputable section

namespace Cert.Merge.Ref

open Idealize.ShloMosaic Cert.Reference2Ideal Cert.Reference2Ideal.Gen Cert.Reference2Ideal.Value Cert.Reference2Ideal.Read

variable (x0 x1 x2 : FVec Ideal S4x8192x512 .bf16) (x3 : FVec Ideal S4x8192x3072 .bf16) (x4 : FVec Ideal S4x8192x1024 .f32)
    (x5 : FVec Ideal S4x6144 .f32) (x6 : FVec Ideal S1024 .f32) (x7 : FVec Ideal S3x512x1024 .f32)
    (x8 : FVec Ideal S1024x1024 .f32) (x9 : FVec Ideal S1024x4096 .f32) (x10 : FVec Ideal S4096x1024 .f32)
    (x11 : FVec Ideal S1024 .f32) (b : Fin 4) (s : Fin 8192) (l : Fin 1024)

theorem v14_apply (q : Fin 3) :
    val_main_v14 (F := Ideal) x3 (ix4 b s q l) = Ideal.logistic (x3 (ix3 b s ⟨q.val * 1024 + l.val, by omega⟩)) := by
  unfold Ideal.logistic
  pointwise [val_main_v14, val_main_v13, val_main_v12, val_main_v11, val_main_v10, val_main_v9, val_main_v8, val_main_v7,
    val_main_cst, val_main_cst_0]

theorem v39_apply : val_main_v39 (F := Ideal) x0 x1 x2 x3 x7 (ix3 b s l)
    = branch (fun k => x3 (ix3 b s ⟨0 * 1024 + k.val, by omega⟩)) (fun k => x0 (ix3 b s k)) (fun k c => x7 (ix3 0 k c)) l
      + branch (fun k => x3 (ix3 b s ⟨1 * 1024 + k.val, by omega⟩)) (fun k => x1 (ix3 b s k)) (fun k c => x7 (ix3 1 k c)) l
      + branch (fun k => x3 (ix3 b s ⟨2 * 1024 + k.val, by omega⟩)) (fun k => x2 (ix3 b s k)) (fun k c => x7 (ix3 2 k c)) l := by
  have e0 := v14_apply x3 b s l 0
  have e1 := v14_apply x3 b s l 1
  have e2 := v14_apply x3 b s l 2
  unfold branch mm
  simp only [val_main_v39, val_main_v38, val_main_v33, val_main_v32, val_main_v31, val_main_v30, val_main_v25, val_main_v24,
    val_main_v23, val_main_v22, val_main_v21, val_main_v16, val_main_v15]
  generalize val_main_v14 (F := Ideal) x3 = g at *
  pointwise [val_main_v37, val_main_v36, val_main_v35, val_main_v34, val_main_v29, val_main_v28, val_main_v27, val_main_v26,
    val_main_v20, val_main_v19, val_main_v18, val_main_v17, val_main_cst_1]
  rw [e0, e1, e2]
  simp

theorem v43_apply : val_main_v43 (F := Ideal) x0 x1 x2 x3 x4 x5 x7 x8 (ix3 b s l)
    = Merge.x1 (fun k => val_main_v39 (F := Ideal) x0 x1 x2 x3 x7 (ix3 b s k)) (fun k => x4 (ix3 b s k))
        (fun k => x5 (ix2 b ⟨2 * 1024 + k.val, by omega⟩)) (fun k c => x8 (ix2 k c)) l := by
  unfold Merge.x1 mm
  simp only [val_main_v43, val_main_v42, val_main_v40]
  generalize val_main_v39 (F := Ideal) x0 x1 x2 x3 x7 = g
  pointwise [val_main_v41, val_main_v3, val_main_v0]

theorem v62_apply : val_main_v62 (F := Ideal) x0 x1 x2 x3 x4 x5 x6 x7 x8 (ix3 b s l)
    = hid (fun k => val_main_v43 (F := Ideal) x0 x1 x2 x3 x4 x5 x7 x8 (ix3 b s k)) (fun k => x6 (ix1 k))
        (fun k => x5 (ix2 b ⟨4 * 1024 + k.val, by omega⟩)) (fun k => x5 (ix2 b ⟨3 * 1024 + k.val, by omega⟩)) l := by
  unfold hid rms
  simp only [val_main_v62, val_main_v60, val_main_v56, val_main_v53, val_main_v52, val_main_v51, val_main_v50, val_main_v48,
    val_main_v46, val_main_v45, val_main_v44]
  generalize val_main_v43 (F := Ideal) x0 x1 x2 x3 x4 x5 x7 x8 = g
  pointwise [val_main_v61, val_main_v59, val_main_v58, val_main_v57, val_main_v55, val_main_v54, val_main_v49, val_main_v47,
    val_main_v5, val_main_v4, val_main_v0, val_main_cst_2, val_main_cst_3, val_main_cst_4, val_main_cst_5]

theorem v66_apply : val_main_v66 (F := Ideal) x0 x1 x2 x3 x4 x5 x6 x7 x8 x9 x10 (ix3 b s l)
    = ff (fun k => val_main_v62 (F := Ideal) x0 x1 x2 x3 x4 x5 x6 x7 x8 (ix3 b s k)) (fun k c => x9 (ix2 k c))
        (fun k c => x10 (ix2 k c)) l := by
  unfold ff sq mm
  simp only [val_main_v66, val_main_v65, val_main_v64, val_main_v63]
  generalize val_main_v62 (F := Ideal) x0 x1 x2 x3 x4 x5 x6 x7 x8 = g
  pointwise [val_main_call0_v0, val_main_call0_cst]

theorem v82_apply : val_main_v82 (F := Ideal) x0 x1 x2 x3 x4 x5 x6 x7 x8 x9 x10 x11 (ix3 b s l)
    = fin (fun k => val_main_v43 (F := Ideal) x0 x1 x2 x3 x4 x5 x7 x8 (ix3 b s k))
        (fun k => x5 (ix2 b ⟨5 * 1024 + k.val, by omega⟩))
        (fun k => val_main_v66 (F := Ideal) x0 x1 x2 x3 x4 x5 x6 x7 x8 x9 x10 (ix3 b s k)) (fun k => x11 (ix1 k)) l := by
  unfold fin rms
  simp only [val_main_v82, val_main_v79, val_main_v78, val_main_v77, val_main_v76, val_main_v74, val_main_v72, val_main_v71,
    val_main_v70, val_main_v69, val_main_v68]
  generalize val_main_v43 (F := Ideal) x0 x1 x2 x3 x4 x5 x7 x8 = g
  generalize val_main_v66 (F := Ideal) x0 x1 x2 x3 x4 x5 x6 x7 x8 x9 x10 = f
  pointwise [val_main_v81, val_main_v80, val_main_v75, val_main_v73, val_main_v67, val_main_v6, val_main_v0, val_main_cst_6,
    val_main_cst_7, val_main_cst_8]

/-- The reference's element. -/
theorem result_apply : val_main_v82 (F := Ideal) x0 x1 x2 x3 x4 x5 x6 x7 x8 x9 x10 x11 (ix3 b s l)
    = token (fun q k => x3 (ix3 b s ⟨q.val * 1024 + k.val, by omega⟩))
        (fun q k => if q = 0 then x0 (ix3 b s k) else if q = 1 then x1 (ix3 b s k) else x2 (ix3 b s k))
        (fun k => x4 (ix3 b s k)) (fun k => x5 (ix2 b ⟨2 * 1024 + k.val, by omega⟩)) (fun k => x6 (ix1 k))
        (fun k => x5 (ix2 b ⟨4 * 1024 + k.val, by omega⟩)) (fun k => x5 (ix2 b ⟨3 * 1024 + k.val, by omega⟩))
        (fun k => x5 (ix2 b ⟨5 * 1024 + k.val, by omega⟩)) (fun k => x11 (ix1 k))
        (fun q k c => x7 (ix3 q k c)) (fun k c => x8 (ix2 k c)) (fun k c => x9 (ix2 k c)) (fun k c => x10 (ix2 k c)) l := by
  simp only [v82_apply, v66_apply, v62_apply, v43_apply, v39_apply]
  rfl

end Cert.Merge.Ref
end
-- ==== Proof.MergeClaim.lean ====
/-
  The value claim of the merge and feed-forward call: both programs run and leave the same array.
-/
module

public import proofs.«01_k».proof.Defs
public import proofs.«01_k».proof.Proof.MergeValue
public import proofs.«01_k».proof.Proof.MergeRef

@[expose] public section

set_option maxRecDepth 16384

noncomputable section

namespace Cert.Merge

open Idealize.ShloMosaic Idealize.ShloMosaic.TcCoe Idealize.SL.Sem

theorem claim : @Cert.algebraic_Kernel2Ideal_Reference2Ideal Cert.Kernel2Ideal.Gen.facts Cert.Reference2Ideal.Gen.facts := by
  intro m g m' g' _ hm
  refine ⟨fun c => G m c, run m g, ?_⟩
  refine (θ_run _ _ _).mono (fun r h c => ⟨(h c).1.trans ?_, (h c).2⟩) (Cert.Reference2Ideal.Value.run m' g')
  obtain ⟨e0, e1, e2, e3, e4, e5, e6, e7, e8, e9, e10, e11⟩ := hm c
  rw [Cert.Reference2Ideal.Read.val_main_v82_eq, e0, e1, e2, e3, e4, e5, e6, e7, e8, e9, e10, e11]
  funext i
  obtain ⟨b, s, l, rfl⟩ : ∃ (b : Fin 4) (s : Fin 8192) (l : Fin 1024), i = ix3 b s l :=
    ⟨i 0, i 1, i 2, by funext a; fin_cases a <;> rfl⟩
  exact Ref.result_apply _ _ _ _ _ _ _ _ _ _ _ _ b s l

end Cert.Merge
end
-- ==== Proof.InprojKernel.lean ====
/-
  The projection kernel's arithmetic at one element: the projection of a block of rows, the four causal taps over the
  block and the eight rows carried from the block before it, and the activation.
-/
module

public import proofs.«01_k».proof.Proof.MergeSpec
public import proofs.«01_k».proof.Proof.Gen.Kernel3Ideal.Skeleton

@[expose] public section

set_option maxRecDepth 16384

noncomputable section

namespace Cert.Inproj

open Idealize.ShloMosaic Cert.Kernel3Ideal Cert.Kernel3Ideal.Gen

/-- A block of rows times a block of columns. -/
def mmT (h : FVec Ideal S512x1024 .bf16) (w : Vec Ideal S1024x512 .bf16) : FVec Ideal S512x512 .f32 :=
  matmul dot_S512x1024_S1024x512_S512x512_1_0_0_1_n_n none h (shapeCast S1024x512 w shapeCasts_S1024x512_S1024x512 : FVec Ideal S1024x512 .bf16)
    (constant S512x512 .f32 0x00000000#32)

/-- A row of taps times a constant. -/
def tap (s : BitVec 32) (w : Vec Ideal S1x512 .f32) : FVec Ideal S1x512 .f32 :=
  mulf (shapeCast S1x512 w shapeCasts_S1x512_S1x512) (broadcast S1x512 (Scalar.ofBits .f32 s : Ideal .f32))

/-- The block moved down `n` rows, its first rows from the carried ones. -/
def moved (n : BitVec 32) (a : FVec Ideal S512x512 .f32) (p : FVec Ideal S8x512 .f32) : FVec Ideal S512x512 .f32 :=
  concatenate S512x512 0
    [⟨S8x512, select (cmpi .slt (iota .tc S8x512 32 [0] iota_S8x512_d0_w32) (broadcast S8x512 n))
      (dynamicRotate 0 n none p rotates_S8x512_d0)
      (dynamicRotate 0 n none (extractStridedSlice S8x512 ![0, 0] a slices_S512x512_o0_0_S8x512) rotates_S8x512_d0)⟩,
     ⟨S504x512, extractStridedSlice S504x512 ![8, 0] (dynamicRotate 0 n none a rotates_S512x512_d0) slices_S512x512_o8_0_S504x512⟩]
    concatenates_S8x512_S504x512_S512x512_d0

/-- The four taps. -/
def taps (s : BitVec 32) (a : FVec Ideal S512x512 .f32) (p : Vec Ideal S1x8x512 .f32) (w0 w1 w2 w3 : Vec Ideal S1x512 .f32) :
    FVec Ideal S512x512 .f32 :=
  let q : FVec Ideal S8x512 .f32 := shapeCast S8x512 p shapeCasts_S1x8x512_S8x512
  addf (addf (addf (mulf (broadcastTo S512x512 (tap s w3) broadcasts_S1x512_S512x512) a)
      (mulf (broadcastTo S512x512 (tap s w2) broadcasts_S1x512_S512x512) (moved 1#32 a q)))
      (mulf (broadcastTo S512x512 (tap s w1) broadcasts_S1x512_S512x512) (moved 2#32 a q)))
      (mulf (broadcastTo S512x512 (tap s w0) broadcasts_S1x512_S512x512) (moved 3#32 a q))

/-- The taps with a bias. -/
def biased (s : BitVec 32) (z : FVec Ideal S512x512 .f32) (b : Vec Ideal S1x512 .f32) : FVec Ideal S512x512 .f32 :=
  addf z (broadcastTo S512x512 (tap s b) broadcasts_S1x512_S512x512)

/-- A result tile. -/
def tile (z : FVec Ideal S512x512 .f32) : FVec Ideal S1x512x512 .bf16 :=
  shapeCast S1x512x512 (truncf .bf16 z bitsLt_bf16_f32) shapeCasts_S512x512_S1x512x512

/-- The activation of a halved argument. -/
def act (z : FVec Ideal S512x512 .f32) : FVec Ideal S512x512 .f32 := addf z (mulf z (tanh z))

/-- The rows the block hands on. -/
def rest (a : FVec Ideal S512x512 .f32) : FVec Ideal S1x8x512 .f32 :=
  shapeCast S1x8x512 (extractStridedSlice S8x512 ![504, 0] a slices_S512x512_o504_0_S8x512) shapeCasts_S8x512_S1x8x512

theorem mmT_apply (h : FVec Ideal S512x1024 .bf16) (w : Vec Ideal S1024x512 .bf16) (r l : Fin 512) :
    mmT h w (ix2 r l) = ∑ k : Fin 1024, h (ix2 r k) * w (ix2 k l) := by
  pointwise [mmT]

theorem hid_apply (v4 : Vec Ideal S1x512x1024 .f32) (v16 : Vec Ideal S1x1024 .f32) (v20 v26 : Vec Ideal S1x1x1024 .f32)
    (r : Fin 512) (k : Fin 1024) :
    k0_pay4 v4 v16 v20 v26 (ix2 r k) = Merge.hid (fun k => v4 (ix3 0 r k)) (fun k => v16 (ix2 0 k))
      (fun k => v20 (ix3 0 0 k)) (fun k => v26 (ix3 0 0 k)) k := by
  unfold Merge.hid Merge.rms
  pointwise [k0_pay4]

theorem small_apply (h : FVec Ideal S512x1024 .bf16) (w : Vec Ideal S1024x128 .bf16) (r : Fin 512) (l : Fin 128) :
    k0_pay2 h w (ix3 0 r l) = ∑ k : Fin 1024, h (ix2 r k) * w (ix2 k l) := by
  pointwise [k0_pay2]

theorem tap_apply (s : BitVec 32) (w : Vec Ideal S1x512 .f32) (l : Fin 512) :
    tap s w (ix2 0 l) = w (ix2 0 l) * Ideal.ofBits .f32 s := by
  pointwise [tap]

theorem tile_apply (z : FVec Ideal S512x512 .f32) (r l : Fin 512) : tile z (ix3 0 r l) = z (ix2 r l) := by
  pointwise [tile]

theorem act_apply (z : FVec Ideal S512x512 .f32) (r l : Fin 512) :
    act z (ix2 r l) = z (ix2 r l) + z (ix2 r l) * Ideal.tanh (z (ix2 r l)) := by
  pointwise [act]

theorem rest_apply (a : FVec Ideal S512x512 .f32) (r : Fin 8) (l : Fin 512) :
    rest a (ix3 0 r l) = a (ix2 ⟨504 + r.val, by omega⟩ l) := by
  pointwise [rest]

theorem biased_apply (s : BitVec 32) (z : FVec Ideal S512x512 .f32) (b : Vec Ideal S1x512 .f32) (r l : Fin 512) :
    biased s z b (ix2 r l) = z (ix2 r l) + b (ix2 0 l) * Ideal.ofBits .f32 s := by
  pointwise [biased, tap]

/-- What stands `n` rows above row `r` of a block: the carried rows above its first. -/
def above (a : Fin 512 → EReal) (p : Fin 8 → EReal) (n : ℕ) (r : Fin 512) : EReal :=
  if h : r.val < n then p ⟨(8 - n + r.val) % 8, Nat.mod_lt _ (by norm_num)⟩ else a ⟨r.val - n, by omega⟩

theorem slt_small (r : Fin 8) (n : Fin 4) :
    IntOp.cmpi CmpIPredicate.slt (BitVec.ofNat 32 r.val) (BitVec.ofNat 32 n.val) = if r.val < n.val then 1#1 else 0#1 := by
  revert r n; decide

theorem pick (n : ℕ) (hn : n < 4) (a : Fin 512 → EReal) (p : Fin 8 → EReal) (r : Fin 512) :
    (if h : r.val < 8 then
      Scalar.select (IntOp.cmpi CmpIPredicate.slt (BitVec.ofNat 32 r.val) (BitVec.ofNat 32 n))
        (p ⟨(r.val + 8 - n) % 8, Nat.mod_lt _ (by norm_num)⟩) (a ⟨(r.val + 8 - n) % 8, by omega⟩)
      else a ⟨(8 + (r.val - 8) + 512 - n) % 512, Nat.mod_lt _ (by norm_num)⟩) = above a p n r := by
  unfold above
  have hr := r.isLt
  by_cases h : r.val < 8
  · rw [dif_pos h, slt_small ⟨r.val, h⟩ ⟨n, hn⟩]
    by_cases h2 : r.val < n
    · rw [dif_pos h2, if_pos h2]
      exact congrArg p (Fin.ext (by show (r.val + 8 - n) % 8 = (8 - n + r.val) % 8; omega))
    · rw [dif_neg h2, if_neg h2]
      exact congrArg a (Fin.ext (by show (r.val + 8 - n) % 8 = r.val - n; omega))
  · rw [dif_neg h, dif_neg (by omega)]
    exact congrArg a (Fin.ext (by show (8 + (r.val - 8) + 512 - n) % 512 = r.val - n; omega))

theorem moved_apply (n : ℕ) (hn : n = 1 ∨ n = 2 ∨ n = 3) (a : FVec Ideal S512x512 .f32) (p : FVec Ideal S8x512 .f32) (r l : Fin 512) :
    moved (BitVec.ofNat 32 n) a p (ix2 r l) = above (fun r => a (ix2 r l)) (fun r => p (ix2 r l)) n r := by
  rw [← pick n (by omega)]
  rcases hn with rfl | rfl | rfl
  all_goals pointwise [moved]

theorem taps_apply (s : BitVec 32) (a : FVec Ideal S512x512 .f32) (p : Vec Ideal S1x8x512 .f32) (w0 w1 w2 w3 : Vec Ideal S1x512 .f32)
    (r l : Fin 512) :
    taps s a p w0 w1 w2 w3 (ix2 r l)
      = w3 (ix2 0 l) * Ideal.ofBits .f32 s * a (ix2 r l)
        + w2 (ix2 0 l) * Ideal.ofBits .f32 s * above (fun r => a (ix2 r l)) (fun r => p (ix3 0 r l)) 1 r
        + w1 (ix2 0 l) * Ideal.ofBits .f32 s * above (fun r => a (ix2 r l)) (fun r => p (ix3 0 r l)) 2 r
        + w0 (ix2 0 l) * Ideal.ofBits .f32 s * above (fun r => a (ix2 r l)) (fun r => p (ix3 0 r l)) 3 r := by
  have e : ∀ r, shapeCast S8x512 p shapeCasts_S1x8x512_S8x512 (ix2 r l) = p (ix3 0 r l) := fun r => by pointwise
  have m1 := moved_apply 1 (by simp) a (shapeCast S8x512 p shapeCasts_S1x8x512_S8x512) r l
  have m2 := moved_apply 2 (by simp) a (shapeCast S8x512 p shapeCasts_S1x8x512_S8x512) r l
  have m3 := moved_apply 3 (by simp) a (shapeCast S8x512 p shapeCasts_S1x8x512_S8x512) r l
  simp only [e] at m1 m2 m3
  rw [← m1, ← m2, ← m3]
  unfold taps
  generalize moved 1#32 a (shapeCast S8x512 p shapeCasts_S1x8x512_S8x512) = y1
  generalize moved 2#32 a (shapeCast S8x512 p shapeCasts_S1x8x512_S8x512) = y2
  generalize moved 3#32 a (shapeCast S8x512 p shapeCasts_S1x8x512_S8x512) = y3
  pointwise [tap]

end Cert.Inproj
end
-- ==== Proof.InprojOut.lean ====
/-
  What the projection kernel's body leaves in each result block and in the carried rows, as tiles.
-/
module

public import proofs.«01_k».proof.Proof.InprojKernel
public import proofs.«01_k».proof.Proof.Gen.Kernel3Ideal.Value
public import Idealize.ShloMosaic.Lib.Pipeline.ValueKit

@[expose] public section

set_option maxRecDepth 16384

noncomputable section

namespace Cert.Inproj

open Idealize.ShloMosaic Idealize.ShloMosaic.Pipeline Idealize.SL.Sem Cert.Kernel3Ideal Cert.Kernel3Ideal.Gen

/-- A block of columns of the weights. -/
def Wc (x4 : Vec Ideal S1024x7808 .bf16) (q : Fin 15) : Vec Ideal S1024x512 .bf16 :=
  View.ld x4 (Rect.unit (s := S1024x7808) ![0, 512 * q.val] S1024x512.size (by intro a; fin_cases a <;> simp <;> omega))
/-- The last columns of the weights. -/
def Ws (x4 : Vec Ideal S1024x7808 .bf16) : Vec Ideal S1024x128 .bf16 :=
  View.ld x4 (Rect.unit (s := S1024x7808) ![0, 7680] S1024x128.size inb_S1024x7808_S1024x128_0_7680)
/-- A block of a row of taps. -/
def Tc (x5 : Vec Ideal S4x3072 .f32) (k : Fin 4) (j : Fin 6) : Vec Ideal S1x512 .f32 :=
  View.ld x5 (Rect.unit (s := S4x3072) ![k.val, 512 * j.val] S1x512.size (by intro a; fin_cases a <;> simp <;> omega))
/-- A block of the biases. -/
def Bc (x6 : Vec Ideal S1x3072 .f32) (j : Fin 6) : Vec Ideal S1x512 .f32 :=
  View.ld x6 (Rect.unit (s := S1x3072) ![0, 512 * j.val] S1x512.size (by intro a; fin_cases a <;> simp <;> omega))
/-- The carried rows of a block of columns. -/
def Pc (xs : Vec Ideal S6x8x512 .f32) (j : Fin 6) : Vec Ideal S1x8x512 .f32 :=
  View.ld xs (Rect.unit (s := S6x8x512) ![j.val, 0, 0] S1x8x512.size (by intro a; fin_cases a <;> simp <;> omega))
/-- No rows carried. -/
def Pz (j : Fin 6) : Vec Ideal S1x8x512 .f32 := Pc (k0_pay3 (F := Ideal)) j

section Lists

variable (h : FVec Ideal S512x1024 .bf16) (x4 : Vec Ideal S1024x7808 .bf16) (x5 : Vec Ideal S4x3072 .f32)
  (x6 : Vec Ideal S1x3072 .f32) (p : Fin 6 → Vec Ideal S1x8x512 .f32)

/-- The taps over a block of columns. -/
def Cv (s : BitVec 32) (j : Fin 6) : FVec Ideal S512x512 .f32 :=
  taps s (mmT h (Wc x4 ⟨j.val, by omega⟩)) (p j) (Tc x5 0 j) (Tc x5 1 j) (Tc x5 2 j) (Tc x5 3 j)

def L7 : List (View.Piece (Elt Ideal) S1x512x1536 .bf16) :=
  [⟨Rect.unit (s := S1x512x1536) ![0, 0, 1024] S1x512x512.size inb_S1x512x1536_S1x512x512_0_0_1024, tile (act (Cv h x4 x5 p 0x3F000000#32 2))⟩,
   ⟨Rect.unit (s := S1x512x1536) ![0, 0, 512] S1x512x512.size inb_S1x512x1536_S1x512x512_0_0_512, tile (act (Cv h x4 x5 p 0x3F000000#32 1))⟩,
   ⟨Rect.unit (s := S1x512x1536) ![0, 0, 0] S1x512x512.size inb_S1x512x1536_S1x512x512_0_0_0, tile (act (Cv h x4 x5 p 0x3F000000#32 0))⟩]
def L8 : List (View.Piece (Elt Ideal) S1x512x1024 .bf16) :=
  [⟨Rect.unit (s := S1x512x1024) ![0, 0, 512] S1x512x512.size inb_S1x512x1024_S1x512x512_0_0_512, tile (act (biased 0x3F000000#32 (Cv h x4 x5 p 0x3F000000#32 4) (Bc x6 4)))⟩,
   ⟨Rect.unit (s := S1x512x1024) ![0, 0, 0] S1x512x512.size inb_S1x512x1024_S1x512x512_0_0_0, tile (act (biased 0x3F000000#32 (Cv h x4 x5 p 0x3F000000#32 3) (Bc x6 3)))⟩]
def L9 : List (View.Piece (Elt Ideal) S1x512x512 .bf16) :=
  [⟨Rect.unit (s := S1x512x512) ![0, 0, 0] S1x512x512.size inb_S1x512x512_S1x512x512_0_0_0, tile (biased 0x3F800000#32 (Cv h x4 x5 p 0x3F800000#32 5) (Bc x6 5))⟩]
def L10 : List (View.Piece (Elt Ideal) S1x512x1536 .bf16) :=
  [⟨Rect.unit (s := S1x512x1536) ![0, 0, 1024] S1x512x512.size inb_S1x512x1536_S1x512x512_0_0_1024, tile (mmT h (Wc x4 8))⟩,
   ⟨Rect.unit (s := S1x512x1536) ![0, 0, 512] S1x512x512.size inb_S1x512x1536_S1x512x512_0_0_512, tile (mmT h (Wc x4 7))⟩,
   ⟨Rect.unit (s := S1x512x1536) ![0, 0, 0] S1x512x512.size inb_S1x512x1536_S1x512x512_0_0_0, tile (mmT h (Wc x4 6))⟩]
def L11 : List (View.Piece (Elt Ideal) S1x512x3072 .bf16) :=
  [⟨Rect.unit (s := S1x512x3072) ![0, 0, 2560] S1x512x512.size inb_S1x512x3072_S1x512x512_0_0_2560, tile (mmT h (Wc x4 14))⟩,
   ⟨Rect.unit (s := S1x512x3072) ![0, 0, 2048] S1x512x512.size inb_S1x512x3072_S1x512x512_0_0_2048, tile (mmT h (Wc x4 13))⟩,
   ⟨Rect.unit (s := S1x512x3072) ![0, 0, 1536] S1x512x512.size inb_S1x512x3072_S1x512x512_0_0_1536, tile (mmT h (Wc x4 12))⟩,
   ⟨Rect.unit (s := S1x512x3072) ![0, 0, 1024] S1x512x512.size inb_S1x512x3072_S1x512x512_0_0_1024, tile (mmT h (Wc x4 11))⟩,
   ⟨Rect.unit (s := S1x512x3072) ![0, 0, 512] S1x512x512.size inb_S1x512x3072_S1x512x512_0_0_512, tile (mmT h (Wc x4 10))⟩,
   ⟨Rect.unit (s := S1x512x3072) ![0, 0, 0] S1x512x512.size inb_S1x512x3072_S1x512x512_0_0_0, tile (mmT h (Wc x4 9))⟩]
def L12 : List (View.Piece (Elt Ideal) S1x512x128 .f32) :=
  [⟨Rect.unit (s := S1x512x128) ![0, 0, 0] S1x512x128.size inb_S1x512x128_S1x512x128_0_0_0, k0_pay2 h (Ws x4)⟩]
def LS : List (View.Piece (Elt Ideal) S6x8x512 .f32) :=
  [⟨Rect.unit (s := S6x8x512) ![5, 0, 0] S1x8x512.size inb_S6x8x512_S1x8x512_5_0_0, rest (mmT h (Wc x4 5))⟩,
   ⟨Rect.unit (s := S6x8x512) ![4, 0, 0] S1x8x512.size inb_S6x8x512_S1x8x512_4_0_0, rest (mmT h (Wc x4 4))⟩,
   ⟨Rect.unit (s := S6x8x512) ![3, 0, 0] S1x8x512.size inb_S6x8x512_S1x8x512_3_0_0, rest (mmT h (Wc x4 3))⟩,
   ⟨Rect.unit (s := S6x8x512) ![2, 0, 0] S1x8x512.size inb_S6x8x512_S1x8x512_2_0_0, rest (mmT h (Wc x4 2))⟩,
   ⟨Rect.unit (s := S6x8x512) ![1, 0, 0] S1x8x512.size inb_S6x8x512_S1x8x512_1_0_0, rest (mmT h (Wc x4 1))⟩,
   ⟨Rect.unit (s := S6x8x512) ![0, 0, 0] S1x8x512.size inb_S6x8x512_S1x8x512_0_0_0, rest (mmT h (Wc x4 0))⟩]

end Lists

theorem hz2 : (![0, 0] : Fin 2 → ℕ) = 0 := by funext a; fin_cases a <;> rfl
theorem hz3 : (![0, 0, 0] : Fin 3 → ℕ) = 0 := by funext a; fin_cases a <;> rfl

/-- A tile under the last store holds its payload. -/
theorem canon_hit {S : Shape} {e : EltTy} (off size : Fin S.rank → ℕ) (inb) (w : (Rect.unit off size inb).shape.Idx → Elt Ideal e)
    (L : List (View.Piece (Elt Ideal) S e)) (y : S.Idx) (x : (Rect.unit off size inb).shape.Idx) (hy : ∀ a, (y a).val = off a + (x a).val) :
    View.canon (⟨Rect.unit off size inb, w⟩ :: L) y = w x := by
  rw [show y = (Rect.unit off size inb).emb x from funext fun a => Fin.ext (by
    rw [Rect.emb_apply]; show _ = off a + 1 * (x a).val; rw [hy a]; omega)]
  exact View.canon_cons_emb _ _ _ _

/-- A tile off the last store is the earlier stores'. -/
theorem canon_skip {S : Shape} {e : EltTy} (off size : Fin S.rank → ℕ) (inb) (w : (Rect.unit off size inb).shape.Idx → Elt Ideal e)
    (L : List (View.Piece (Elt Ideal) S e)) (y : S.Idx) (a : Fin S.rank) (hy : (y a).val < off a ∨ off a + size a ≤ (y a).val) :
    View.canon (⟨Rect.unit off size inb, w⟩ :: L) y = View.canon L y := by
  refine View.canon_cons_of_not_mem _ _ fun hm => ?_
  have := (Rect.mem_set_unit (inb := inb)).mp hm a
  omega

variable (c : Dev nD) (i : grid0.Coords)
  (arg2 : Memref sig .tc .vmem S1x512x1024 .f32) (harg2 : arg2.IsWhole) (arg3 : Memref sig .tc .vmem S1x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1024x7808 .bf16) (harg6 : arg6.IsWhole) (arg7 : Memref sig .tc .vmem S4x3072 .f32) (harg7 : arg7.IsWhole)
  (arg8 : Memref sig .tc .vmem S1x3072 .f32) (harg8 : arg8.IsWhole) (arg9 : Memref sig .tc .vmem S1x512x1536 .bf16) (harg9 : arg9.IsWhole)
  (arg10 : Memref sig .tc .vmem S1x512x1024 .bf16) (harg10 : arg10.IsWhole) (arg11 : Memref sig .tc .vmem S1x512x512 .bf16) (harg11 : arg11.IsWhole)
  (arg12 : Memref sig .tc .vmem S1x512x1536 .bf16) (harg12 : arg12.IsWhole) (arg13 : Memref sig .tc .vmem S1x512x3072 .bf16) (harg13 : arg13.IsWhole)
  (arg14 : Memref sig .tc .vmem S1x512x128 .f32) (harg14 : arg14.IsWhole) (arg15 : Memref sig .tc .vmem S6x8x512 .f32) (harg15 : arg15.IsWhole)
  (x0 : Vec Ideal S1x512x1024 .f32) (x1 : Vec Ideal S1x1024 .f32) (x2 x3 : Vec Ideal S1x1x1024 .f32) (x4 : Vec Ideal S1024x7808 .bf16)
  (x5 : Vec Ideal S4x3072 .f32) (x6 : Vec Ideal S1x3072 .f32) (xs0 : Vec Ideal S6x8x512 .f32)

/-- A carried block is not touched by a store to another block. -/
theorem cov_skip (v : View sig .tc .vmem S6x8x512 .f32) (j j' : ℕ) (hj : j ≠ j') (inb inb')
    (w : (Rect.unit (s := S6x8x512) ![j', 0, 0] S1x8x512.size inb').shape.Idx → Elt Ideal .f32) (L : List (View.Piece (Elt Ideal) S6x8x512 .f32)) :
    v.readCov (⟨Rect.unit (s := S6x8x512) ![j', 0, 0] S1x8x512.size inb', w⟩ :: L) (Rect.unit (s := S6x8x512) ![j, 0, 0] S1x8x512.size inb).toLoadRect
      = v.readCov L (Rect.unit (s := S6x8x512) ![j, 0, 0] S1x8x512.size inb).toLoadRect := by
  rw [View.readCov_eq_canon', View.readCov_eq_canon']
  funext x
  refine canon_skip _ _ inb' w L _ 0 ?_
  have e : ((Rect.unit (s := S6x8x512) ![j, 0, 0] S1x8x512.size inb).toLoadRect.idx x 0).val = j := by
    have : (x 0).val < 1 := (x 0).isLt
    show j + 1 * (x 0).val = j
    omega
  rw [e]
  show j < j' ∨ j' + 1 ≤ j
  omega

theorem cov_zero (v : View sig .tc .vmem S6x8x512 .f32) (j : ℕ) (inb inb') :
    v.readCov ([⟨Rect.unit (s := S6x8x512) ![0, 0, 0] S6x8x512.size inb', k0_pay3 (F := Ideal)⟩] : List (View.Piece (Elt Ideal) S6x8x512 .f32))
      (Rect.unit (s := S6x8x512) ![j, 0, 0] S1x8x512.size inb).toLoadRect
      = fun x => (k0_pay3 (F := Ideal)) ((Rect.unit (s := S6x8x512) ![j, 0, 0] S1x8x512.size inb).idx x) := by
  rw [View.readCov_eq_canon', View.canon_unit_zero hz3]

theorem outB7 (hc0 : ¬cond0_0 i) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (L7 (k0_pay4 x0 x1 x2 x3) x4 x5 (Pc xs0)) := by
  unfold out0_B_7
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem outB8 (hc0 : ¬cond0_0 i) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (L8 (k0_pay4 x0 x1 x2 x3) x4 x5 x6 (Pc xs0)) := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem outB9 (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (L9 (k0_pay4 x0 x1 x2 x3) x4 x5 x6 (Pc xs0)) := by
  unfold out0_B_9
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem outB10 (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (L10 (k0_pay4 x0 x1 x2 x3) x4) := by
  unfold out0_B_10
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem outB11 (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (L11 (k0_pay4 x0 x1 x2 x3) x4) := by
  unfold out0_B_11
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem outB12 (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (L12 (k0_pay4 x0 x1 x2 x3) x4) := by
  unfold out0_B_12
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem soutB (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = View.canon (LS (k0_pay4 x0 x1 x2 x3) x4) := by
  unfold sout0_B_0
  rw [View.read_writes_junk_eq_canon]
  unfold kernelRun0_B
  dsimp only
  sl_unfold_words
  simp only [View.readAt_eq_ld, harg2.read_unread, harg3.read_unread, harg4.read_unread, harg5.read_unread, harg6.read_unread,
    harg7.read_unread, harg8.read_unread, harg15.read_unread,
    View.ld_unit_zero (S := S1x512x1024) hz3, View.ld_unit_zero (S := S1x1024) hz2,
    View.ld_unit_zero (S := S1x1x1024) hz3]
  rfl

theorem outA7 (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (L7 (k0_pay4 x0 x1 x2 x3) x4 x5 Pz) := by
  unfold out0_A_7
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rw [cov_skip _ 2 1 (by decide), cov_skip _ 2 0 (by decide), cov_skip _ 1 0 (by decide), cov_zero _ 2, cov_zero _ 1, cov_zero _ 0]
  rfl

theorem outA8 (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (L8 (k0_pay4 x0 x1 x2 x3) x4 x5 x6 Pz) := by
  unfold out0_A_8
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rw [cov_skip _ 4 3 (by decide), cov_skip _ 4 2 (by decide), cov_skip _ 4 1 (by decide), cov_skip _ 4 0 (by decide), cov_skip _ 3 2 (by decide), cov_skip _ 3 1 (by decide), cov_skip _ 3 0 (by decide), cov_zero _ 4, cov_zero _ 3]
  rfl

theorem outA9 (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (L9 (k0_pay4 x0 x1 x2 x3) x4 x5 x6 Pz) := by
  unfold out0_A_9
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rw [cov_skip _ 5 4 (by decide), cov_skip _ 5 3 (by decide), cov_skip _ 5 2 (by decide), cov_skip _ 5 1 (by decide), cov_skip _ 5 0 (by decide), cov_zero _ 5]
  rfl

theorem outA10 (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (L10 (k0_pay4 x0 x1 x2 x3) x4) := by
  unfold out0_A_10
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rfl

theorem outA11 (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (L11 (k0_pay4 x0 x1 x2 x3) x4) := by
  unfold out0_A_11
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rfl

theorem outA12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (L12 (k0_pay4 x0 x1 x2 x3) x4) := by
  unfold out0_A_12
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rfl

theorem soutA (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = View.canon (LS (k0_pay4 x0 x1 x2 x3) x4 ++ [⟨Rect.unit (s := S6x8x512) ![0, 0, 0] S6x8x512.size inb_S6x8x512_S6x8x512_0_0_0, k0_pay3 (F := Ideal)⟩]) := by
  unfold sout0_A_0
  rw [View.read_writes_junk_eq_canon]
  unfold kernelRun0_A
  dsimp only
  sl_unfold_words
  simp only [View.readAt_eq_ld, harg2.read_unread, harg3.read_unread, harg4.read_unread, harg5.read_unread, harg6.read_unread,
    harg7.read_unread, harg8.read_unread,
    View.ld_unit_zero (S := S1x512x1024) hz3, View.ld_unit_zero (S := S1x1024) hz2,
    View.ld_unit_zero (S := S1x1x1024) hz3]
  rfl

end Cert.Inproj
end
-- ==== Proof.InprojSpec.lean ====
/-
  The projection call as plain functions of the argument arrays: the modulated rows, the projection, the four causal
  taps and the activation.
-/
module

public import proofs.«01_k».proof.Proof.MergeSpec
public import proofs.«01_k».proof.Proof.Scan

@[expose] public section

noncomputable section

namespace Cert.Inproj

open Idealize.ShloMosaic

/-! ## Real values -/

/-- A value that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.zero : IsR 0 := ⟨0, EReal.coe_zero.symm⟩

theorem coe_sum {n : ℕ} (g : Fin n → ℝ) : ((∑ k, g k : ℝ) : EReal) = ∑ k, (g k : EReal) := by
  classical
  exact Finset.induction_on Finset.univ (by simp) fun a s h ih => by
    rw [Finset.sum_insert h, Finset.sum_insert h, EReal.coe_add, ih]

theorem IsR.sum {n : ℕ} (f : Fin n → EReal) (h : ∀ k, IsR (f k)) : IsR (∑ k, f k) := by
  choose g hg using h
  exact ⟨∑ k, g k, by rw [Finset.sum_congr rfl fun k _ => hg k]; exact (coe_sum g).symm⟩

theorem one_f32 : Ideal.ofBits .f32 0x3F800000#32 = 1 := by
  simp [Ideal.ofBits, Ideal.ieee, -EReal.coe_mul]; norm_num

/-- The normalization's divisor and its small addend are positive reals. -/
theorem count_f32 : Ideal.ofBits .f32 0x44800000#32 = ((1024 : ℝ) : EReal) := by
  simp [Ideal.ofBits, Ideal.ieee, -EReal.coe_mul]; norm_num

theorem eps_f32 : ∃ e : ℝ, 0 < e ∧ Ideal.ofBits .f32 0x358637BD#32 = (e : EReal) := by
  refine ⟨8796093 * (2 ^ 43)⁻¹, by norm_num, ?_⟩
  simp [Ideal.ofBits, Ideal.ieee, -EReal.coe_mul]

theorem rms_isR (v : Fin 1024 → EReal) (h : ∀ k, IsR (v k)) (j : Fin 1024) : IsR (Merge.rms v j) := by
  obtain ⟨e, he, hb⟩ := eps_f32
  choose g hg using h
  have hs : (∑ k, v k * v k) = ((∑ k, g k * g k : ℝ) : EReal) := by
    rw [coe_sum]
    exact Finset.sum_congr rfl fun k _ => by rw [hg, EReal.coe_mul]
  unfold Merge.rms
  rw [hs, hb, count_f32]
  have hp : 0 ≤ ∑ k, g k * g k := Finset.sum_nonneg fun k _ => mul_self_nonneg _
  generalize ∑ k, g k * g k = S at hp
  have hd : Ideal.div ((S : ℝ) : EReal) ((1024 : ℝ) : EReal) = ((S / 1024 : ℝ) : EReal) := by
    unfold Ideal.div
    norm_num
    rfl
  rw [hd, ← EReal.coe_add]
  refine IsR.mul ⟨_, hg j⟩ ⟨(Real.sqrt (S / 1024 + e))⁻¹, ?_⟩
  have : 0 < S / 1024 + e := by positivity
  show (if S / 1024 + e < 0 then ⊥ else if S / 1024 + e = 0 then ⊤ else (((Real.sqrt (S / 1024 + e))⁻¹ : ℝ) : EReal)) = _
  rw [if_neg this.not_gt, if_neg this.ne']

theorem hid_isR (v nw sc sh : Fin 1024 → EReal) (hv : ∀ k, IsR (v k)) (hn : ∀ k, IsR (nw k)) (hc : ∀ k, IsR (sc k))
    (hs : ∀ k, IsR (sh k)) (j : Fin 1024) : IsR (Merge.hid v nw sc sh j) := by
  unfold Merge.hid
  rw [one_f32]
  exact (((rms_isR v hv j).mul (hn j)).mul (IsR.add ⟨1, rfl⟩ (hc j))).add (hs j)

/-! ## The activation -/

/-- A value times its sigmoid. -/
def silu (z : EReal) : EReal := z * Ideal.div 1 (1 + Ideal.exp (-z))

/-- The activation written on half its argument, at a real value. -/
theorem silu_half (z : EReal) (h : IsR z) :
    Ideal.ofBits .f32 0x3F000000#32 * z + Ideal.ofBits .f32 0x3F000000#32 * z * Ideal.tanh (Ideal.ofBits .f32 0x3F000000#32 * z)
      = silu z := by
  unfold silu
  rw [← Cert.Scan.half_tanh, Cert.Scan.half_f32]
  obtain ⟨r, rfl⟩ := h
  rw [← EReal.coe_mul, show Ideal.tanh (((1 / 2 * r : ℝ)) : EReal) = ((Real.tanh (1 / 2 * r) : ℝ) : EReal) from rfl]
  generalize Real.tanh (1 / 2 * r) = t
  rw [← EReal.coe_mul, ← EReal.coe_mul, ← EReal.coe_add, ← EReal.coe_add, ← EReal.coe_mul]
  congr 1
  ring

/-! ## The projection and the taps -/

/-- A constant factor common to the taps comes out. -/
theorem taps_scale (c : EReal) (h0 : 0 ≤ c) (ht : c ≠ ⊤) (w0 w1 w2 w3 a u1 u2 u3 : EReal) :
    w3 * c * a + w2 * c * u1 + w1 * c * u2 + w0 * c * u3 = c * (w3 * a + w2 * u1 + w1 * u2 + w0 * u3) := by
  rw [EReal.left_distrib_of_nonneg_of_ne_top h0 ht, EReal.left_distrib_of_nonneg_of_ne_top h0 ht,
    EReal.left_distrib_of_nonneg_of_ne_top h0 ht]
  simp only [mul_comm _ c, mul_assoc]

theorem bias_scale (c : EReal) (h0 : 0 ≤ c) (ht : c ≠ ⊤) (z b : EReal) : c * z + b * c = c * (z + b) := by
  rw [EReal.left_distrib_of_nonneg_of_ne_top h0 ht, mul_comm b c]

/-- The first weight column of each block of 512 columns. -/
def base : Fin 15 → ℕ := ![0, 512, 1024, 2056, 3080, 3600, 1536, 2568, 4112, 4624, 5136, 5648, 6160, 6672, 7184]

theorem base_le (q : Fin 15) : base q + 512 ≤ 7696 := by revert q; decide

/-- A column of a block. -/
def col (q : Fin 15) (l : Fin 512) : Fin 7696 := ⟨base q + l.val, by have := base_le q; omega⟩

section Spec

variable (X : Fin 4 → Fin 8192 → Fin 1024 → EReal) (M : Fin 4 → Fin 6144 → EReal) (N : Fin 1024 → EReal)
  (W : Fin 1024 → Fin 7696 → EReal)

/-- A modulated row. -/
def hh (b : Fin 4) (s : Fin 8192) (k : Fin 1024) : EReal :=
  Merge.hid (X b s) N (fun k => M b ⟨1024 + k.val, by omega⟩) (fun k => M b ⟨k.val, by omega⟩) k

/-- The projection. -/
def P (b : Fin 4) (s : Fin 8192) (j : Fin 7696) : EReal := ∑ k, hh X M N b s k * W k j

/-- The projection `n` positions earlier, zero before the first. -/
def up (b : Fin 4) (n : ℕ) (s : Fin 8192) (j : Fin 7696) : EReal :=
  if h : s.val < n then 0 else P X M N W b ⟨s.val - n, by omega⟩ j

/-- The four taps. -/
def cv (w : Fin 4 → EReal) (b : Fin 4) (s : Fin 8192) (j : Fin 7696) : EReal :=
  w 3 * P X M N W b s j + w 2 * up X M N W b 1 s j + w 1 * up X M N W b 2 s j + w 0 * up X M N W b 3 s j

theorem P_isR (hX : ∀ b s k, IsR (X b s k)) (hM : ∀ b k, IsR (M b k)) (hN : ∀ k, IsR (N k)) (hW : ∀ k j, IsR (W k j))
    (b : Fin 4) (s : Fin 8192) (j : Fin 7696) : IsR (P X M N W b s j) :=
  IsR.sum _ fun k => (hid_isR _ _ _ _ (hX b s) hN (fun k => hM b _) (fun k => hM b _) k).mul (hW k j)

theorem up_isR (hP : ∀ b s j, IsR (P X M N W b s j)) (b : Fin 4) (n : ℕ) (s : Fin 8192) (j : Fin 7696) : IsR (up X M N W b n s j) := by
  unfold up
  split
  · exact IsR.zero
  · exact hP _ _ _

theorem cv_isR (hP : ∀ b s j, IsR (P X M N W b s j)) (w : Fin 4 → EReal) (hw : ∀ k, IsR (w k)) (b : Fin 4) (s : Fin 8192)
    (j : Fin 7696) : IsR (cv X M N W w b s j) :=
  ((((hw 3).mul (hP b s j)).add ((hw 2).mul (up_isR X M N W hP b 1 s j))).add ((hw 1).mul (up_isR X M N W hP b 2 s j))).add
    ((hw 0).mul (up_isR X M N W hP b 3 s j))

end Spec

/-- The weight column of a column of the scan gates' result. -/
def colZ (l : Fin 1536) : Fin 7696 := col ⟨6 + l.val / 512, by omega⟩ ⟨l.val % 512, by omega⟩

end Cert.Inproj
end
-- ==== Proof.InprojBlock.lean ====
/-
  The elements of the projection kernel's result tiles, from the block's operands and the carried rows.
-/
module

public import proofs.«01_k».proof.Proof.InprojOut
public import proofs.«01_k».proof.Proof.InprojSpec

@[expose] public section

set_option maxRecDepth 16384

noncomputable section

namespace Cert.Inproj

open Idealize.ShloMosaic Idealize.ShloMosaic.Pipeline Idealize.SL.Sem Cert.Kernel3Ideal Cert.Kernel3Ideal.Gen

variable (h : FVec Ideal S512x1024 .bf16) (x4 : Vec Ideal S1024x7808 .bf16) (x5 : Vec Ideal S4x3072 .f32)
  (x6 : Vec Ideal S1x3072 .f32) (xs : Vec Ideal S6x8x512 .f32) (p : Fin 6 → Vec Ideal S1x8x512 .f32)

theorem Wc_apply (q : Fin 15) (k : Fin 1024) (l : Fin 512) : Wc x4 q (ix2 k l) = x4 (ix2 k ⟨512 * q.val + l.val, by omega⟩) := by
  unfold Wc; pointwise; blk_ext
theorem Ws_apply (k : Fin 1024) (l : Fin 128) : Ws x4 (ix2 k l) = x4 (ix2 k ⟨7680 + l.val, by omega⟩) := by
  unfold Ws; pointwise; blk_ext
theorem Tc_apply (k : Fin 4) (j : Fin 6) (l : Fin 512) : Tc x5 k j (ix2 0 l) = x5 (ix2 k ⟨512 * j.val + l.val, by omega⟩) := by
  unfold Tc; pointwise; blk_ext
theorem Bc_apply (j : Fin 6) (l : Fin 512) : Bc x6 j (ix2 0 l) = x6 (ix2 0 ⟨512 * j.val + l.val, by omega⟩) := by
  unfold Bc; pointwise; blk_ext
theorem Pc_apply (j : Fin 6) (r : Fin 8) (l : Fin 512) : Pc xs j (ix3 0 r l) = xs (ix3 j r l) := by
  unfold Pc; pointwise; blk_ext
theorem Pz_apply (j : Fin 6) (r : Fin 8) (l : Fin 512) : Pz j (ix3 0 r l) = 0 := by
  unfold Pz
  rw [Pc_apply]
  pointwise [k0_pay3]

/-- A column under the last tile holds its payload. -/
theorem tile_hit {e : EltTy} (n o : ℕ) (inb) (w : (Rect.unit (s := ⟨3, ![1, 512, n]⟩) ![0, 0, o] S1x512x512.size inb).shape.Idx → Elt Ideal e)
    (L : List (View.Piece (Elt Ideal) ⟨3, ![1, 512, n]⟩ e)) (r : Fin 512) (y : Fin n) (l : Fin 512) (hy : y.val = o + l.val) :
    View.canon (⟨Rect.unit (s := ⟨3, ![1, 512, n]⟩) ![0, 0, o] S1x512x512.size inb, w⟩ :: L) (ix3 0 r y) = w (ix3 0 r l) :=
  canon_hit _ _ inb w L _ _ fun a => by
    match a with
    | 0 => rfl
    | 1 => exact (Nat.zero_add _).symm
    | 2 => exact hy

/-- A column off the last tile is the earlier tiles'. -/
theorem tile_skip {e : EltTy} (n o : ℕ) (inb) (w : (Rect.unit (s := ⟨3, ![1, 512, n]⟩) ![0, 0, o] S1x512x512.size inb).shape.Idx → Elt Ideal e)
    (L : List (View.Piece (Elt Ideal) ⟨3, ![1, 512, n]⟩ e)) (r : Fin 512) (y : Fin n) (hy : y.val < o ∨ o + 512 ≤ y.val) :
    View.canon (⟨Rect.unit (s := ⟨3, ![1, 512, n]⟩) ![0, 0, o] S1x512x512.size inb, w⟩ :: L) (ix3 0 r y) = View.canon L (ix3 0 r y) :=
  canon_skip _ _ inb w L _ 2 hy

theorem row_hit (o : Fin 6) (inb) (w : (Rect.unit (s := S6x8x512) ![o.val, 0, 0] S1x8x512.size inb).shape.Idx → Elt Ideal .f32)
    (L : List (View.Piece (Elt Ideal) S6x8x512 .f32)) (r : Fin 8) (l : Fin 512) :
    View.canon (⟨Rect.unit (s := S6x8x512) ![o.val, 0, 0] S1x8x512.size inb, w⟩ :: L) (ix3 o r l) = w (ix3 0 r l) :=
  canon_hit _ _ inb w L _ _ fun a => by
    match a with
    | 0 => rfl
    | 1 => exact (Nat.zero_add _).symm
    | 2 => exact (Nat.zero_add _).symm

theorem row_skip (o : ℕ) (inb) (w : (Rect.unit (s := S6x8x512) ![o, 0, 0] S1x8x512.size inb).shape.Idx → Elt Ideal .f32)
    (L : List (View.Piece (Elt Ideal) S6x8x512 .f32)) (j : Fin 6) (r : Fin 8) (l : Fin 512) (hj : j.val ≠ o) :
    View.canon (⟨Rect.unit (s := S6x8x512) ![o, 0, 0] S1x8x512.size inb, w⟩ :: L) (ix3 j r l) = View.canon L (ix3 j r l) :=
  canon_skip _ _ inb w L _ 0 (by show j.val < o ∨ o + 1 ≤ j.val; omega)

theorem L7_apply (q : Fin 3) (r l : Fin 512) : View.canon (L7 h x4 x5 p) (ix3 0 r ⟨512 * q.val + l.val, by omega⟩)
    = act (Cv h x4 x5 p 0x3F000000#32 ⟨q.val, by omega⟩) (ix2 r l) := by
  have hl := l.isLt
  refine Eq.trans ?_ (tile_apply _ r l)
  unfold L7
  match q with
  | 0 => rw [tile_skip (hy := by simp; omega), tile_skip (hy := by simp), tile_hit (l := l) (hy := by simp)]; rfl
  | 1 => rw [tile_skip (hy := by simp; omega), tile_hit (l := l) (hy := by simp)]; rfl
  | 2 => rw [tile_hit (l := l) (hy := by simp)]; rfl

theorem L8_apply (q : Fin 2) (r l : Fin 512) : View.canon (L8 h x4 x5 x6 p) (ix3 0 r ⟨512 * q.val + l.val, by omega⟩)
    = act (biased 0x3F000000#32 (Cv h x4 x5 p 0x3F000000#32 ⟨3 + q.val, by omega⟩) (Bc x6 ⟨3 + q.val, by omega⟩)) (ix2 r l) := by
  have hl := l.isLt
  refine Eq.trans ?_ (tile_apply _ r l)
  unfold L8
  match q with
  | 0 => rw [tile_skip (hy := by simp), tile_hit (l := l) (hy := by simp)]; rfl
  | 1 => rw [tile_hit (l := l) (hy := by simp)]; rfl

theorem L9_apply (r l : Fin 512) : View.canon (L9 h x4 x5 x6 p) (ix3 0 r l)
    = biased 0x3F800000#32 (Cv h x4 x5 p 0x3F800000#32 5) (Bc x6 5) (ix2 r l) := by
  refine Eq.trans ?_ (tile_apply _ r l)
  unfold L9
  exact tile_hit _ _ _ _ _ r l l (Nat.zero_add _).symm

theorem L10_apply (q : Fin 3) (r l : Fin 512) : View.canon (L10 h x4) (ix3 0 r ⟨512 * q.val + l.val, by omega⟩)
    = mmT h (Wc x4 ⟨6 + q.val, by omega⟩) (ix2 r l) := by
  have hl := l.isLt
  refine Eq.trans ?_ (tile_apply _ r l)
  unfold L10
  match q with
  | 0 => rw [tile_skip (hy := by simp; omega), tile_skip (hy := by simp), tile_hit (l := l) (hy := by simp)]; rfl
  | 1 => rw [tile_skip (hy := by simp; omega), tile_hit (l := l) (hy := by simp)]; rfl
  | 2 => rw [tile_hit (l := l) (hy := by simp)]; rfl

theorem L11_apply (q : Fin 6) (r l : Fin 512) : View.canon (L11 h x4) (ix3 0 r ⟨512 * q.val + l.val, by omega⟩)
    = mmT h (Wc x4 ⟨9 + q.val, by omega⟩) (ix2 r l) := by
  have hl := l.isLt
  refine Eq.trans ?_ (tile_apply _ r l)
  unfold L11
  match q with
  | 0 => rw [tile_skip (hy := by simp; omega), tile_skip (hy := by simp; omega), tile_skip (hy := by simp; omega),
           tile_skip (hy := by simp; omega), tile_skip (hy := by simp), tile_hit (l := l) (hy := by simp)]; rfl
  | 1 => rw [tile_skip (hy := by simp; omega), tile_skip (hy := by simp; omega), tile_skip (hy := by simp; omega),
           tile_skip (hy := by simp; omega), tile_hit (l := l) (hy := by simp)]; rfl
  | 2 => rw [tile_skip (hy := by simp; omega), tile_skip (hy := by simp; omega), tile_skip (hy := by simp; omega),
           tile_hit (l := l) (hy := by simp)]; rfl
  | 3 => rw [tile_skip (hy := by simp; omega), tile_skip (hy := by simp; omega), tile_hit (l := l) (hy := by simp)]; rfl
  | 4 => rw [tile_skip (hy := by simp; omega), tile_hit (l := l) (hy := by simp)]; rfl
  | 5 => rw [tile_hit (l := l) (hy := by simp)]; rfl

theorem L12_apply (r : Fin 512) (l : Fin 128) : View.canon (L12 h x4) (ix3 0 r l) = ∑ k : Fin 1024, h (ix2 r k) * Ws x4 (ix2 k l) := by
  rw [← small_apply]
  unfold L12
  exact canon_hit _ _ inb_S1x512x128_S1x512x128_0_0_0 _ _ _ _ fun a => by
    match a with
    | 0 => rfl
    | 1 => exact (Nat.zero_add _).symm
    | 2 => exact (Nat.zero_add _).symm

theorem LS_apply (L : List (View.Piece (Elt Ideal) S6x8x512 .f32)) (j : Fin 6) (r : Fin 8) (l : Fin 512) :
    View.canon (LS h x4 ++ L) (ix3 j r l) = mmT h (Wc x4 ⟨j.val, by omega⟩) (ix2 ⟨504 + r.val, by omega⟩ l) := by
  refine Eq.trans ?_ (rest_apply _ r l)
  unfold LS
  simp only [List.cons_append, List.nil_append]
  match j with
  | 0 => rw [row_skip (hj := by simp), row_skip (hj := by simp), row_skip (hj := by simp), row_skip (hj := by simp), row_skip (hj := by simp)]
         exact row_hit 0 _ _ _ r l
  | 1 => rw [row_skip (hj := by simp), row_skip (hj := by simp), row_skip (hj := by simp), row_skip (hj := by simp)]
         exact row_hit 1 _ _ _ r l
  | 2 => rw [row_skip (hj := by simp), row_skip (hj := by simp), row_skip (hj := by simp)]
         exact row_hit 2 _ _ _ r l
  | 3 => rw [row_skip (hj := by simp), row_skip (hj := by simp)]
         exact row_hit 3 _ _ _ r l
  | 4 => rw [row_skip (hj := by simp)]
         exact row_hit 4 _ _ _ r l
  | 5 => exact row_hit 5 _ _ _ r l

/-- A tap sum's element. -/
theorem Cv_apply (s : BitVec 32) (j : Fin 6) (r l : Fin 512) (h0 : 0 ≤ Ideal.ofBits .f32 s) (ht : Ideal.ofBits .f32 s ≠ ⊤) :
    Cv h x4 x5 p s j (ix2 r l) = Ideal.ofBits .f32 s *
      (Tc x5 3 j (ix2 0 l) * mmT h (Wc x4 ⟨j.val, by omega⟩) (ix2 r l)
        + Tc x5 2 j (ix2 0 l) * above (fun r => mmT h (Wc x4 ⟨j.val, by omega⟩) (ix2 r l)) (fun r => p j (ix3 0 r l)) 1 r
        + Tc x5 1 j (ix2 0 l) * above (fun r => mmT h (Wc x4 ⟨j.val, by omega⟩) (ix2 r l)) (fun r => p j (ix3 0 r l)) 2 r
        + Tc x5 0 j (ix2 0 l) * above (fun r => mmT h (Wc x4 ⟨j.val, by omega⟩) (ix2 r l)) (fun r => p j (ix3 0 r l)) 3 r) := by
  unfold Cv
  rw [taps_apply, taps_scale _ h0 ht]

end Cert.Inproj
end
-- ==== Proof.InprojRead.lean ====
/-
  The operands of the projection kernel that the host puts together: the reordered weights, the taps and the biases.
-/
module

public import proofs.«01_k».proof.Proof.InprojBlock
public import Idealize.ShloMosaic.Lib.Claim

@[expose] public section

set_option maxRecDepth 16384

noncomputable section

namespace Cert.Inproj

open Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg)

theorem i4 : ∀ t : Fin cfg0.N, win0_4.index t = ![0, 0] := (by decide +kernel : ∀ t : Fin grid0.N, _)

/-- The reordered weights from their pieces. -/
def wcat (w0 w1 w2 w3 : FVec Ideal S1024x512 .f32) (w4 w5 : FVec Ideal S1024x256 .f32) (w6 w7 w8 w9 : FVec Ideal S1024x512 .f32)
    (w10 : FVec Ideal S1024x3072 .f32) (w11 : FVec Ideal S1024x128 .f32) : FVec Ideal S1024x7808 .bf16 :=
  truncf .bf16 (concatenate S1024x7808 1 [⟨S1024x512, w0⟩, ⟨S1024x512, w1⟩, ⟨S1024x512, w2⟩, ⟨S1024x512, w3⟩, ⟨S1024x256, w4⟩,
    ⟨S1024x256, w5⟩, ⟨S1024x512, w6⟩, ⟨S1024x512, w7⟩, ⟨S1024x512, w8⟩, ⟨S1024x512, w9⟩, ⟨S1024x3072, w10⟩, ⟨S1024x128, w11⟩]
    concatenates_S1024x512_S1024x512_S1024x512_S1024x512_S1024x256_S1024x256_S1024x512_S1024x512_S1024x512_S1024x512_S1024x3072_S1024x128_S1024x7808_d1)
    bitsLt_bf16_f32

theorem st2_v29 (σ : Valuation τ sig (Elt Ideal)) :
    StableHlo.after hostOps0_2 σ (Proc.tc.devRef main_v29) = wcat (σ (Proc.tc.devRef main_v16)) (σ (Proc.tc.devRef main_v17))
      (σ (Proc.tc.devRef main_v18)) (σ (Proc.tc.devRef main_v19)) (σ (Proc.tc.devRef main_v20)) (σ (Proc.tc.devRef main_v21))
      (σ (Proc.tc.devRef main_v22)) (σ (Proc.tc.devRef main_v23)) (σ (Proc.tc.devRef main_v24)) (σ (Proc.tc.devRef main_v25))
      (σ (Proc.tc.devRef main_v26)) (σ (Proc.tc.devRef main_v27)) := by
  entry_read
  rfl

/-- The columns of the small projections, then zeros. -/
def wsmall (W : FVec Ideal S1024x7696 .f32) : FVec Ideal S1024x128 .f32 :=
  pad (s := S1024x16) (u := S_) S1024x128 ![0, 0] ![0, 112] ![0, 0]
    (concatenate S1024x16 1 [⟨S1024x4, extractStridedSlice S1024x4 ![0, 2048] W slices_S1024x7696_S1024x4_0_2048⟩,
        ⟨S1024x4, extractStridedSlice S1024x4 ![0, 2052] W slices_S1024x7696_S1024x4_0_2052⟩,
        ⟨S1024x8, extractStridedSlice S1024x8 ![0, 3592] W slices_S1024x7696_S1024x8_0_3592⟩]
        concatenates_S1024x4_S1024x4_S1024x8_S1024x16_d1)
    (sitofp .f32 (constantI S_ 32 0#32) : FVec Ideal S_ .f32) pads_S1024x16_S1024x128_000_01120 h_S_

/-- The reordered weights. -/
def wall (W : FVec Ideal S1024x7696 .f32) : FVec Ideal S1024x7808 .bf16 :=
  wcat
    (extractStridedSlice S1024x512 ![0, 0] W slices_S1024x7696_S1024x512_0_0)
    (extractStridedSlice S1024x512 ![0, 512] W slices_S1024x7696_S1024x512_0_512)
    (extractStridedSlice S1024x512 ![0, 1024] W slices_S1024x7696_S1024x512_0_1024)
    (extractStridedSlice S1024x512 ![0, 2056] W slices_S1024x7696_S1024x512_0_2056)
    (extractStridedSlice S1024x256 ![0, 3080] W slices_S1024x7696_S1024x256_0_3080)
    (extractStridedSlice S1024x256 ![0, 3336] W slices_S1024x7696_S1024x256_0_3336)
    (extractStridedSlice S1024x512 ![0, 3600] W slices_S1024x7696_S1024x512_0_3600)
    (extractStridedSlice S1024x512 ![0, 1536] W slices_S1024x7696_S1024x512_0_1536)
    (extractStridedSlice S1024x512 ![0, 2568] W slices_S1024x7696_S1024x512_0_2568)
    (extractStridedSlice S1024x512 ![0, 4112] W slices_S1024x7696_S1024x512_0_4112)
    (extractStridedSlice S1024x3072 ![0, 4624] W slices_S1024x7696_S1024x3072_0_4624)
    (wsmall W)

theorem st1_v27 (σ : Valuation τ sig (Elt Ideal)) :
    StableHlo.after hostOps0_1 σ (Proc.tc.devRef main_v27)
      = pad (s := S1024x16) (u := S_) S1024x128 ![0, 0] ![0, 112] ![0, 0] (σ (Proc.tc.devRef main_v15) : FVec Ideal S1024x16 .f32)
          (sitofp .f32 (σ (Proc.tc.devRef main_c) : IVec S_ 32) : FVec Ideal S_ .f32) pads_S1024x16_S1024x128_000_01120 h_S_ := by
  entry_read
  rfl

set_option maxHeartbeats 1600000 in
theorem st0_v15 (σ : Valuation τ sig (Elt Ideal)) :
    StableHlo.after hostOps0 σ (Proc.tc.devRef main_v15)
      = concatenate S1024x16 1 [⟨S1024x4, extractStridedSlice S1024x4 ![0, 2048] (σ (Proc.tc.devRef main_arg3) : FVec Ideal S1024x7696 .f32) slices_S1024x7696_S1024x4_0_2048⟩,
        ⟨S1024x4, extractStridedSlice S1024x4 ![0, 2052] (σ (Proc.tc.devRef main_arg3) : FVec Ideal S1024x7696 .f32) slices_S1024x7696_S1024x4_0_2052⟩,
        ⟨S1024x8, extractStridedSlice S1024x8 ![0, 3592] (σ (Proc.tc.devRef main_arg3) : FVec Ideal S1024x7696 .f32) slices_S1024x7696_S1024x8_0_3592⟩]
        concatenates_S1024x4_S1024x4_S1024x8_S1024x16_d1 := by
  refine Eq.trans (b := StableHlo.after (hostOps0.take 15 ++ hostOps0.drop 15) σ (Proc.tc.devRef main_v15)) rfl ?_
  rw [StableHlo.after_append]
  have hA : ∀ σ' : Valuation τ sig (Elt Ideal), StableHlo.after (hostOps0.drop 15) σ' (Proc.tc.devRef main_v15)
      = concatenate S1024x16 1 [⟨S1024x4, (σ' (Proc.tc.devRef main_v12) : FVec Ideal S1024x4 .f32)⟩,
        ⟨S1024x4, (σ' (Proc.tc.devRef main_v13) : FVec Ideal S1024x4 .f32)⟩,
        ⟨S1024x8, (σ' (Proc.tc.devRef main_v14) : FVec Ideal S1024x8 .f32)⟩]
        concatenates_S1024x4_S1024x4_S1024x8_S1024x16_d1 := by
    intro σ'
    simp only [hostOps0, List.drop_succ_cons, List.drop_zero]
    entry_read
    rfl
  have hB : StableHlo.after (hostOps0.take 15) σ (Proc.tc.devRef main_v12) = extractStridedSlice S1024x4 ![0, 2048] (σ (Proc.tc.devRef main_arg3) : FVec Ideal S1024x7696 .f32) slices_S1024x7696_S1024x4_0_2048 ∧
      StableHlo.after (hostOps0.take 15) σ (Proc.tc.devRef main_v13) = extractStridedSlice S1024x4 ![0, 2052] (σ (Proc.tc.devRef main_arg3) : FVec Ideal S1024x7696 .f32) slices_S1024x7696_S1024x4_0_2052 ∧
      StableHlo.after (hostOps0.take 15) σ (Proc.tc.devRef main_v14) = extractStridedSlice S1024x8 ![0, 3592] (σ (Proc.tc.devRef main_arg3) : FVec Ideal S1024x7696 .f32) slices_S1024x7696_S1024x8_0_3592 := by
    simp only [hostOps0, List.take_succ_cons, List.take_zero]
    refine ⟨?_, ?_, ?_⟩ <;> (entry_read; rfl)
  rw [hA, hB.1, hB.2.1, hB.2.2]

/-- Padding leaves the slices of the weights alone. -/
theorem st1_keep (σ : Valuation τ sig (Elt Ideal)) :
    StableHlo.after hostOps0_1 σ (Proc.tc.devRef main_v16) = σ (Proc.tc.devRef main_v16) ∧
    StableHlo.after hostOps0_1 σ (Proc.tc.devRef main_v17) = σ (Proc.tc.devRef main_v17) ∧
    StableHlo.after hostOps0_1 σ (Proc.tc.devRef main_v18) = σ (Proc.tc.devRef main_v18) ∧
    StableHlo.after hostOps0_1 σ (Proc.tc.devRef main_v19) = σ (Proc.tc.devRef main_v19) ∧
    StableHlo.after hostOps0_1 σ (Proc.tc.devRef main_v20) = σ (Proc.tc.devRef main_v20) ∧
    StableHlo.after hostOps0_1 σ (Proc.tc.devRef main_v21) = σ (Proc.tc.devRef main_v21) ∧
    StableHlo.after hostOps0_1 σ (Proc.tc.devRef main_v22) = σ (Proc.tc.devRef main_v22) ∧
    StableHlo.after hostOps0_1 σ (Proc.tc.devRef main_v23) = σ (Proc.tc.devRef main_v23) ∧
    StableHlo.after hostOps0_1 σ (Proc.tc.devRef main_v24) = σ (Proc.tc.devRef main_v24) ∧
    StableHlo.after hostOps0_1 σ (Proc.tc.devRef main_v25) = σ (Proc.tc.devRef main_v25) ∧
    StableHlo.after hostOps0_1 σ (Proc.tc.devRef main_v26) = σ (Proc.tc.devRef main_v26) := by
  refine ⟨?_, ?_, ?_, ?_, ?_, ?_, ?_, ?_, ?_, ?_, ?_⟩ <;> (entry_read; rfl)

set_option maxHeartbeats 1600000 in
/-- The slices of the weights. -/
theorem st0_slices (σ : Valuation τ sig (Elt Ideal)) :
    StableHlo.after hostOps0 σ (Proc.tc.devRef main_v16) = extractStridedSlice S1024x512 ![0, 0] (σ (Proc.tc.devRef main_arg3) : FVec Ideal S1024x7696 .f32) slices_S1024x7696_S1024x512_0_0 ∧
    StableHlo.after hostOps0 σ (Proc.tc.devRef main_v17) = extractStridedSlice S1024x512 ![0, 512] (σ (Proc.tc.devRef main_arg3) : FVec Ideal S1024x7696 .f32) slices_S1024x7696_S1024x512_0_512 ∧
    StableHlo.after hostOps0 σ (Proc.tc.devRef main_v18) = extractStridedSlice S1024x512 ![0, 1024] (σ (Proc.tc.devRef main_arg3) : FVec Ideal S1024x7696 .f32) slices_S1024x7696_S1024x512_0_1024 ∧
    StableHlo.after hostOps0 σ (Proc.tc.devRef main_v19) = extractStridedSlice S1024x512 ![0, 2056] (σ (Proc.tc.devRef main_arg3) : FVec Ideal S1024x7696 .f32) slices_S1024x7696_S1024x512_0_2056 ∧
    StableHlo.after hostOps0 σ (Proc.tc.devRef main_v20) = extractStridedSlice S1024x256 ![0, 3080] (σ (Proc.tc.devRef main_arg3) : FVec Ideal S1024x7696 .f32) slices_S1024x7696_S1024x256_0_3080 ∧
    StableHlo.after hostOps0 σ (Proc.tc.devRef main_v21) = extractStridedSlice S1024x256 ![0, 3336] (σ (Proc.tc.devRef main_arg3) : FVec Ideal S1024x7696 .f32) slices_S1024x7696_S1024x256_0_3336 ∧
    StableHlo.after hostOps0 σ (Proc.tc.devRef main_v22) = extractStridedSlice S1024x512 ![0, 3600] (σ (Proc.tc.devRef main_arg3) : FVec Ideal S1024x7696 .f32) slices_S1024x7696_S1024x512_0_3600 ∧
    StableHlo.after hostOps0 σ (Proc.tc.devRef main_v23) = extractStridedSlice S1024x512 ![0, 1536] (σ (Proc.tc.devRef main_arg3) : FVec Ideal S1024x7696 .f32) slices_S1024x7696_S1024x512_0_1536 ∧
    StableHlo.after hostOps0 σ (Proc.tc.devRef main_v24) = extractStridedSlice S1024x512 ![0, 2568] (σ (Proc.tc.devRef main_arg3) : FVec Ideal S1024x7696 .f32) slices_S1024x7696_S1024x512_0_2568 ∧
    StableHlo.after hostOps0 σ (Proc.tc.devRef main_v25) = extractStridedSlice S1024x512 ![0, 4112] (σ (Proc.tc.devRef main_arg3) : FVec Ideal S1024x7696 .f32) slices_S1024x7696_S1024x512_0_4112 ∧
    StableHlo.after hostOps0 σ (Proc.tc.devRef main_v26) = extractStridedSlice S1024x3072 ![0, 4624] (σ (Proc.tc.devRef main_arg3) : FVec Ideal S1024x7696 .f32) slices_S1024x7696_S1024x3072_0_4624 := by
  refine ⟨?_, ?_, ?_, ?_, ?_, ?_, ?_, ?_, ?_, ?_, ?_⟩ <;> (entry_read; rfl)

theorem st0_c (σ : Valuation τ sig (Elt Ideal)) :
    StableHlo.after hostOps0 σ (Proc.tc.devRef main_c) = constantI S_ 32 0#32 := by
  entry_read
  rfl

/-- The weights operand when the kernel starts. -/
theorem V29 (c : Dev nD) : V m c main_v29 = wall (m ((c : Thread nD τ).loc main_arg3)) := by
  refine Eq.trans (b := StableHlo.after (hostOps0 ++ (hostOps0_1 ++ hostOps0_2)) (fun b => m (c, b)) (Proc.tc.devRef main_v29)) rfl ?_
  obtain ⟨h1, h2, h3, h4, h5, h6, h7, h8, h9, h10, h11⟩ := st1_keep (StableHlo.after hostOps0 (fun b => m (c, b)))
  obtain ⟨g1, g2, g3, g4, g5, g6, g7, g8, g9, g10, g11⟩ := st0_slices (fun b => m (c, b))
  rw [StableHlo.after_append, StableHlo.after_append, st2_v29, st1_v27, st0_v15, st0_c,
    h1, h2, h3, h4, h5, h6, h7, h8, h9, h10, h11, g1, g2, g3, g4, g5, g6, g7, g8, g9, g10, g11]
  rfl

set_option maxHeartbeats 1600000 in
/-- One element of the joined weights. -/
theorem wcat_apply (w0 w1 w2 w3 : FVec Ideal S1024x512 .f32) (w4 w5 : FVec Ideal S1024x256 .f32)
    (w6 w7 w8 w9 : FVec Ideal S1024x512 .f32) (w10 : FVec Ideal S1024x3072 .f32) (w11 : FVec Ideal S1024x128 .f32)
    (k : Fin 1024) (y : Fin 7808) :
    wcat w0 w1 w2 w3 w4 w5 w6 w7 w8 w9 w10 w11 (ix2 k y) =
      if h0 : y.val < 512 then w0 (ix2 k ⟨y.val, h0⟩) else
      if h1 : y.val - 512 < 512 then w1 (ix2 k ⟨y.val - 512, h1⟩) else
      if h2 : y.val - 512 - 512 < 512 then w2 (ix2 k ⟨y.val - 512 - 512, h2⟩) else
      if h3 : y.val - 512 - 512 - 512 < 512 then w3 (ix2 k ⟨y.val - 512 - 512 - 512, h3⟩) else
      if h4 : y.val - 512 - 512 - 512 - 512 < 256 then w4 (ix2 k ⟨y.val - 512 - 512 - 512 - 512, h4⟩) else
      if h5 : y.val - 512 - 512 - 512 - 512 - 256 < 256 then w5 (ix2 k ⟨y.val - 512 - 512 - 512 - 512 - 256, h5⟩) else
      if h6 : y.val - 512 - 512 - 512 - 512 - 256 - 256 < 512 then w6 (ix2 k ⟨y.val - 512 - 512 - 512 - 512 - 256 - 256, h6⟩) else
      if h7 : y.val - 512 - 512 - 512 - 512 - 256 - 256 - 512 < 512 then w7 (ix2 k ⟨y.val - 512 - 512 - 512 - 512 - 256 - 256 - 512, h7⟩) else
      if h8 : y.val - 512 - 512 - 512 - 512 - 256 - 256 - 512 - 512 < 512 then w8 (ix2 k ⟨y.val - 512 - 512 - 512 - 512 - 256 - 256 - 512 - 512, h8⟩) else
      if h9 : y.val - 512 - 512 - 512 - 512 - 256 - 256 - 512 - 512 - 512 < 512 then w9 (ix2 k ⟨y.val - 512 - 512 - 512 - 512 - 256 - 256 - 512 - 512 - 512, h9⟩) else
      if h10 : y.val - 512 - 512 - 512 - 512 - 256 - 256 - 512 - 512 - 512 - 512 < 3072 then w10 (ix2 k ⟨y.val - 512 - 512 - 512 - 512 - 256 - 256 - 512 - 512 - 512 - 512, h10⟩) else
      w11 (ix2 k ⟨y.val - 512 - 512 - 512 - 512 - 256 - 256 - 512 - 512 - 512 - 512 - 3072, by have := y.isLt; omega⟩) := by
  unfold wcat
  pointwise

set_option maxHeartbeats 3200000 in
/-- The piece of the weights a block of columns takes. -/
theorem wall_apply (W : FVec Ideal S1024x7696 .f32) (q : Fin 15) (k : Fin 1024) (l : Fin 512) :
    wall W (ix2 k ⟨512 * q.val + l.val, by omega⟩) = W (ix2 k (col q l)) := by
  unfold wall
  rw [wcat_apply]
  generalize wsmall W = w11
  have hl := l.isLt
  unfold col base
  fin_cases q <;> simp (disch := omega) only [dif_pos, dif_neg]
  all_goals (try split) <;> first
    | omega
    | (pointwise <;> exact congrArg W (congrArg (ix2 k) (Fin.ext (by simp <;> omega))))

theorem wall_small (W : FVec Ideal S1024x7696 .f32) (k : Fin 1024) (l : Fin 128) :
    wall W (ix2 k ⟨7680 + l.val, by omega⟩) = wsmall W (ix2 k l) := by
  unfold wall
  rw [wcat_apply]
  generalize wsmall W = w11
  have hl := l.isLt
  simp (disch := omega) only [dif_pos, dif_neg]
  exact congrArg w11 (congrArg (ix2 k) (Fin.ext (by show 7680 + l.val - 512 - 512 - 512 - 512 - 256 - 256 - 512 - 512 - 512 - 512 - 3072 = l.val; omega)))

end Cert.Inproj
end
-- ==== Proof.InprojSmall.lean ====
/-
  The small columns of the projection's stacked weights: the two gates' columns side by side, then zeros.
-/
module

public import proofs.«01_k».proof.Proof.InprojRead

@[expose] public section

set_option maxRecDepth 16384

noncomputable section

namespace Cert.Inproj

open Idealize.ShloMosaic Idealize.ShloMosaic.TcCoe Idealize.SL.Sem Cert.Kernel3Ideal Cert.Kernel3Ideal.Gen

theorem wsmall_apply (W : FVec Ideal S1024x7696 .f32) (k : Fin 1024) (l : Fin 128) :
    wsmall W (ix2 k l) = if h : l.val < 8 then W (ix2 k ⟨2048 + l.val, by omega⟩)
      else if h : l.val < 16 then W (ix2 k ⟨3592 + (l.val - 8), by omega⟩) else 0 := by
  unfold wsmall
  pointwise
  rw [show FloatOps.sitofp (F := Ideal) FTy.f32 0#32 = (0 : EReal) from by
    show ((((0#32 : BitVec 32).toInt : ℤ) : ℝ) : EReal) = 0
    simp]
  have hl := l.isLt
  rcases (by omega : l.val < 4 ∨ (4 ≤ l.val ∧ l.val < 8) ∨ (8 ≤ l.val ∧ l.val < 12) ∨ (12 ≤ l.val ∧ l.val < 16) ∨ 16 ≤ l.val)
    with h | h | h | h | h <;> simp (disch := omega) only [dif_pos, dif_neg] <;>
    exact congrArg W (congrArg (ix2 k) (Fin.ext (by dsimp only; omega)))

end Cert.Inproj
end
-- ==== Proof.InprojWin.lean ====
/-
  What the projection kernel reads of each operand but the weights, from the argument arrays.
-/
module

public import proofs.«01_k».proof.Proof.InprojBlock
public import Idealize.ShloMosaic.Lib.Claim

@[expose] public section

set_option maxRecDepth 16384

noncomputable section

namespace Cert.Inproj

open Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg)

/-- The batch of a grid point. -/
def tb (t : Fin cfg0.N) : Fin 4 := ⟨t.val / 16, by have : t.val < 64 := t.isLt; omega⟩

/-- The sequence position of row `r` of a grid point's block. -/
def ts (t : Fin cfg0.N) (r : Fin 512) : Fin 8192 := ⟨t.val % 16 * 512 + r.val, by omega⟩

theorem i0 : ∀ t : Fin cfg0.N, win0_0.index t = ![t.val / 16, t.val % 16, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![t.val / 16, 0, 0] := (by decide +kernel : ∀ t : Fin grid0.N, _)
theorem i3 : ∀ t : Fin cfg0.N, win0_3.index t = ![t.val / 16, 0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![t.val / 16, t.val % 16, 0] := (by decide +kernel : ∀ t : Fin grid0.N, _)
theorem i8 : ∀ t : Fin cfg0.N, win0_8.index t = ![t.val / 16, t.val % 16, 0] := (by decide +kernel : ∀ t : Fin grid0.N, _)
theorem i9 : ∀ t : Fin cfg0.N, win0_9.index t = ![t.val / 16, t.val % 16, 0] := (by decide +kernel : ∀ t : Fin grid0.N, _)
theorem i10 : ∀ t : Fin cfg0.N, win0_10.index t = ![t.val / 16, t.val % 16, 0] := (by decide +kernel : ∀ t : Fin grid0.N, _)
theorem i11 : ∀ t : Fin cfg0.N, win0_11.index t = ![t.val / 16, t.val % 16, 0] := (by decide +kernel : ∀ t : Fin grid0.N, _)
theorem i12 : ∀ t : Fin cfg0.N, win0_12.index t = ![t.val / 16, t.val % 16, 0] := (by decide +kernel : ∀ t : Fin grid0.N, _)

/-- A buffer when the kernel starts: the host's three stretches in turn. -/
theorem V_split (c : Dev nD) (b) : V m c b = StableHlo.after hostOps0_2 (StableHlo.after hostOps0_1
    (StableHlo.after hostOps0 (fun b => m (c, b)))) (Proc.tc.devRef b) := by
  refine Eq.trans (b := StableHlo.after (hostOps0 ++ (hostOps0_1 ++ hostOps0_2)) (fun b => m (c, b)) (Proc.tc.devRef b)) rfl ?_
  rw [StableHlo.after_append, StableHlo.after_append]

set_option maxHeartbeats 1600000 in
/-- The first two stretches leave the arguments alone. -/
theorem args_keep (σ : Valuation τ sig (Elt Ideal)) :
    StableHlo.after hostOps0_1 (StableHlo.after hostOps0 σ) (Proc.tc.devRef main_arg2) = σ (Proc.tc.devRef main_arg2) ∧
    StableHlo.after hostOps0_1 (StableHlo.after hostOps0 σ) (Proc.tc.devRef main_arg4) = σ (Proc.tc.devRef main_arg4) ∧
    StableHlo.after hostOps0_1 (StableHlo.after hostOps0 σ) (Proc.tc.devRef main_arg5) = σ (Proc.tc.devRef main_arg5) ∧
    StableHlo.after hostOps0_1 (StableHlo.after hostOps0 σ) (Proc.tc.devRef main_arg6) = σ (Proc.tc.devRef main_arg6) ∧
    StableHlo.after hostOps0_1 (StableHlo.after hostOps0 σ) (Proc.tc.devRef main_arg7) = σ (Proc.tc.devRef main_arg7) ∧
    StableHlo.after hostOps0_1 (StableHlo.after hostOps0 σ) (Proc.tc.devRef main_arg8) = σ (Proc.tc.devRef main_arg8) := by
  have h1 : ∀ σ : Valuation τ sig (Elt Ideal),
      StableHlo.after hostOps0_1 σ (Proc.tc.devRef main_arg2) = σ (Proc.tc.devRef main_arg2) ∧
      StableHlo.after hostOps0_1 σ (Proc.tc.devRef main_arg4) = σ (Proc.tc.devRef main_arg4) ∧
      StableHlo.after hostOps0_1 σ (Proc.tc.devRef main_arg5) = σ (Proc.tc.devRef main_arg5) ∧
      StableHlo.after hostOps0_1 σ (Proc.tc.devRef main_arg6) = σ (Proc.tc.devRef main_arg6) ∧
      StableHlo.after hostOps0_1 σ (Proc.tc.devRef main_arg7) = σ (Proc.tc.devRef main_arg7) ∧
      StableHlo.after hostOps0_1 σ (Proc.tc.devRef main_arg8) = σ (Proc.tc.devRef main_arg8) := by
    intro σ
    refine ⟨?_, ?_, ?_, ?_, ?_, ?_⟩ <;> (entry_read; try rfl)
  obtain ⟨g1, g2, g3, g4, g5, g6⟩ := h1 (StableHlo.after hostOps0 σ)
  rw [g1, g2, g3, g4, g5, g6]
  refine ⟨?_, ?_, ?_, ?_, ?_, ?_⟩ <;> (entry_read; try rfl)

/-- The joined taps. -/
def tcat (a4 : FVec Ideal S4x1536 .f32) (a5 : FVec Ideal S4x1024 .f32) (a7 : FVec Ideal S4x512 .f32) : FVec Ideal S4x3072 .f32 :=
  concatenate S4x3072 1 [⟨S4x1536, a4⟩, ⟨S4x1024, a5⟩, ⟨S4x512, a7⟩] concatenates_S4x1536_S4x1024_S4x512_S4x3072_d1

/-- The joined biases, none for the first columns. -/
def bcat (a6 : FVec Ideal S1024 .f32) (a8 : FVec Ideal S512 .f32) : FVec Ideal S1x3072 .f32 :=
  shapeCast S1x3072 (concatenate S3072 0 [⟨S1536, (broadcastInDim S1536 ![] bcast_S_S1536 (constant S_ .f32 0x00000000#32 : FVec Ideal S_ .f32) : FVec Ideal S1536 .f32)⟩,
    ⟨S1024, a6⟩, ⟨S512, a8⟩] concatenates_S1536_S1024_S512_S3072_d0) shapeCasts_S3072_S1x3072

theorem V30 (c : Dev nD) : V m c main_v30 = tcat (m ((c : Thread nD τ).loc main_arg4)) (m ((c : Thread nD τ).loc main_arg5)) (m ((c : Thread nD τ).loc main_arg7)) := by
  obtain ⟨g1, g2, g3, g4, g5, g6⟩ := args_keep (fun b => m (c, b))
  have hs : ∀ σ : Valuation τ sig (Elt Ideal), StableHlo.after hostOps0_2 σ (Proc.tc.devRef main_v30)
      = tcat (σ (Proc.tc.devRef main_arg4)) (σ (Proc.tc.devRef main_arg5)) (σ (Proc.tc.devRef main_arg7)) := by
    intro σ; entry_read; rfl
  rw [V_split, hs, g2, g3, g5]

set_option maxHeartbeats 1600000 in
theorem V33 (c : Dev nD) : V m c main_v33 = bcat (m ((c : Thread nD τ).loc main_arg6)) (m ((c : Thread nD τ).loc main_arg8)) := by
  obtain ⟨g1, g2, g3, g4, g5, g6⟩ := args_keep (fun b => m (c, b))
  have hs : ∀ σ : Valuation τ sig (Elt Ideal), StableHlo.after hostOps0_2 σ (Proc.tc.devRef main_v33)
      = bcat (σ (Proc.tc.devRef main_arg6)) (σ (Proc.tc.devRef main_arg8)) := by
    intro σ
    refine Eq.trans (b := StableHlo.after (hostOps0_2.take 5 ++ hostOps0_2.drop 5) σ (Proc.tc.devRef main_v33)) rfl ?_
    rw [StableHlo.after_append]
    have hA : ∀ σ' : Valuation τ sig (Elt Ideal), StableHlo.after (hostOps0_2.drop 5) σ' (Proc.tc.devRef main_v33)
        = (shapeCast S1x3072 (concatenate S3072 0 [⟨S1536, (σ' (Proc.tc.devRef main_v31) : FVec Ideal S1536 .f32)⟩,
          ⟨S1024, (σ' (Proc.tc.devRef main_arg6) : FVec Ideal S1024 .f32)⟩, ⟨S512, (σ' (Proc.tc.devRef main_arg8) : FVec Ideal S512 .f32)⟩]
          concatenates_S1536_S1024_S512_S3072_d0) shapeCasts_S3072_S1x3072 : FVec Ideal S1x3072 .f32) := by
      intro σ'
      simp only [hostOps0_2, List.drop_succ_cons, List.drop_zero]
      entry_read
      rfl
    have hB : StableHlo.after (hostOps0_2.take 5) σ (Proc.tc.devRef main_v31)
          = (broadcastInDim S1536 ![] bcast_S_S1536 (constant S_ .f32 0x00000000#32 : FVec Ideal S_ .f32) : FVec Ideal S1536 .f32) ∧
        StableHlo.after (hostOps0_2.take 5) σ (Proc.tc.devRef main_arg6) = σ (Proc.tc.devRef main_arg6) ∧
        StableHlo.after (hostOps0_2.take 5) σ (Proc.tc.devRef main_arg8) = σ (Proc.tc.devRef main_arg8) := by
      simp only [hostOps0_2, List.take_succ_cons, List.take_zero]
      refine ⟨?_, ?_, ?_⟩ <;> (entry_read; try rfl)
    rw [hA, hB.1, hB.2.1, hB.2.2]
    rfl
  rw [V_split, hs, g4, g6]

theorem V34 (c : Dev nD) : V m c main_v34 = (shapeCast S1x1024 (m ((c : Thread nD τ).loc main_arg2) : FVec Ideal S1024 .f32) shapeCasts_S1024_S1x1024 : FVec Ideal S1x1024 .f32) := by
  obtain ⟨g1, g2, g3, g4, g5, g6⟩ := args_keep (fun b => m (c, b))
  have hs : ∀ σ : Valuation τ sig (Elt Ideal), StableHlo.after hostOps0_2 σ (Proc.tc.devRef main_v34)
      = (shapeCast S1x1024 (σ (Proc.tc.devRef main_arg2) : FVec Ideal S1024 .f32) shapeCasts_S1024_S1x1024 : FVec Ideal S1x1024 .f32) := by
    intro σ; entry_read; rfl
  rw [V_split, hs, g1]

/-- A slice of the modulation vectors. -/
theorem V13 (c : Dev nD) :
    V m c main_v1 = (broadcastInDim S4x1x1024 ![0, 2] bcast_S4x1024_S4x1x1024_0_2
      (extractStridedSlice S4x1024 ![0, 0] (m ((c : Thread nD τ).loc main_arg1) : FVec Ideal S4x6144 .f32) slices_S4x6144_S4x1024_0_0 : FVec Ideal S4x1024 .f32) : FVec Ideal S4x1x1024 .f32) ∧
    V m c main_v3 = (broadcastInDim S4x1x1024 ![0, 2] bcast_S4x1024_S4x1x1024_0_2
      (extractStridedSlice S4x1024 ![0, 1024] (m ((c : Thread nD τ).loc main_arg1) : FVec Ideal S4x6144 .f32) slices_S4x6144_S4x1024_0_1024 : FVec Ideal S4x1024 .f32) : FVec Ideal S4x1x1024 .f32) := by
  have hs : ∀ σ : Valuation τ sig (Elt Ideal),
      StableHlo.after hostOps0_2 σ (Proc.tc.devRef main_v1) = σ (Proc.tc.devRef main_v1) ∧
      StableHlo.after hostOps0_2 σ (Proc.tc.devRef main_v3) = σ (Proc.tc.devRef main_v3) := by
    intro σ; refine ⟨?_, ?_⟩ <;> (entry_read; try rfl)
  have ht : ∀ σ : Valuation τ sig (Elt Ideal),
      StableHlo.after hostOps0_1 σ (Proc.tc.devRef main_v1) = σ (Proc.tc.devRef main_v1) ∧
      StableHlo.after hostOps0_1 σ (Proc.tc.devRef main_v3) = σ (Proc.tc.devRef main_v3) := by
    intro σ; refine ⟨?_, ?_⟩ <;> (entry_read; try rfl)
  rw [V_split, V_split, (hs _).1, (hs _).2, (ht _).1, (ht _).2]
  generalize hσ : (fun b => m (c, b) : Valuation τ sig (Elt Ideal)) = σ
  rw [show m ((c : Thread nD τ).loc main_arg1) = σ (Proc.tc.devRef main_arg1) from by rw [← hσ]]
  refine ⟨?_, ?_⟩ <;> (entry_read; try rfl)

theorem rd0 (c : Dev nD) (t : Fin cfg0.N) (r : Fin 512) (k : Fin 1024) :
    iblk m c 0 t (ix3 0 r k) = m ((c : Thread nD τ).loc main_arg0) (ix3 (tb t) (ts t r) k) := by
  blk_simp [iblk]
  rw [V_main_arg0]
  unfold tb ts; blk_ext [i0 t]
theorem rd1 (c : Dev nD) (t : Fin cfg0.N) (k : Fin 1024) :
    iblk m c 1 t (ix2 0 k) = m ((c : Thread nD τ).loc main_arg2) (ix1 k) := by
  blk_simp [iblk]
  rw [show ((View.whole main_v34).slice (win0_1.rect t)).emb (ix2 0 k) = ix2 0 k from by blk_ext [i1 t], V34]
  pointwise
theorem rd2 (c : Dev nD) (t : Fin cfg0.N) (k : Fin 1024) :
    iblk m c 2 t (ix3 0 0 k) = m ((c : Thread nD τ).loc main_arg1) (ix2 (tb t) ⟨1024 + k.val, by omega⟩) := by
  blk_simp [iblk]
  rw [show ((View.whole main_v3).slice (win0_2.rect t)).emb (ix3 0 0 k) = ix3 (tb t) 0 k from by unfold tb; blk_ext [i2 t], (V13 m c).2]
  pointwise
theorem rd3 (c : Dev nD) (t : Fin cfg0.N) (k : Fin 1024) :
    iblk m c 3 t (ix3 0 0 k) = m ((c : Thread nD τ).loc main_arg1) (ix2 (tb t) ⟨k.val, by omega⟩) := by
  blk_simp [iblk]
  rw [show ((View.whole main_v1).slice (win0_3.rect t)).emb (ix3 0 0 k) = ix3 (tb t) 0 k from by unfold tb; blk_ext [i3 t], (V13 m c).1]
  pointwise
theorem rd5 (c : Dev nD) (t : Fin cfg0.N) (j : Fin 4) (l : Fin 3072) : (iblk m c 5 t (ix2 j l) : EReal)
    = tcat (m ((c : Thread nD τ).loc main_arg4)) (m ((c : Thread nD τ).loc main_arg5)) (m ((c : Thread nD τ).loc main_arg7)) (ix2 j l) := by
  blk_simp [iblk]
  rw [show ((View.whole main_v30).slice (win0_5.rect t)).emb (ix2 j l) = ix2 j l from by blk_ext [i5 t], V30]
theorem rd6 (c : Dev nD) (t : Fin cfg0.N) (l : Fin 3072) : (iblk m c 6 t (ix2 0 l) : EReal)
    = bcat (m ((c : Thread nD τ).loc main_arg6)) (m ((c : Thread nD τ).loc main_arg8)) (ix2 0 l) := by
  blk_simp [iblk]
  rw [show ((View.whole main_v33).slice (win0_6.rect t)).emb (ix2 0 l) = ix2 0 l from by blk_ext [i6 t], V33]

/-- A tap: of the first 1536 columns, of the next 1024, of the last 512. -/
theorem tcat_apply (a4 : FVec Ideal S4x1536 .f32) (a5 : FVec Ideal S4x1024 .f32) (a7 : FVec Ideal S4x512 .f32) (j : Fin 4) (y : Fin 3072) :
    tcat a4 a5 a7 (ix2 j y) = if h : y.val < 1536 then a4 (ix2 j ⟨y.val, h⟩) else
      if h : y.val - 1536 < 1024 then a5 (ix2 j ⟨y.val - 1536, h⟩) else a7 (ix2 j ⟨y.val - 1536 - 1024, by have := y.isLt; omega⟩) := by
  unfold tcat
  pointwise

/-- A bias. -/
theorem bcat_apply (a6 : FVec Ideal S1024 .f32) (a8 : FVec Ideal S512 .f32) (y : Fin 3072) (hy : ¬ y.val < 1536) :
    bcat a6 a8 (ix2 0 y) =
      if h : y.val - 1536 < 1024 then a6 (ix1 ⟨y.val - 1536, h⟩) else a8 (ix1 ⟨y.val - 1536 - 1024, by have := y.isLt; omega⟩) := by
  unfold bcat
  pointwise
  rw [dif_neg hy]

end Cert.Inproj
end
-- ==== Proof.InprojGoal.lean ====
/-
  The six results of the projection as functions of a position and a column.
-/
module

public import proofs.«01_k».proof.Proof.InprojSpec

@[expose] public section

set_option maxRecDepth 16384

noncomputable section

namespace Cert.Inproj

open Idealize.ShloMosaic

/-- The weight column of a column of each result. -/
def colQ (l : Fin 1536) : Fin 7696 := ⟨l.val, by omega⟩
def colX (l : Fin 1024) : Fin 7696 := ⟨if l.val < 512 then 2056 + l.val else 3080 + (l.val - 512), by split <;> omega⟩
def colB (l : Fin 512) : Fin 7696 := ⟨3600 + l.val, by omega⟩
def colG (l : Fin 3072) : Fin 7696 := ⟨4624 + l.val, by omega⟩

theorem colQ_block (q : Fin 3) (l : Fin 512) : colQ ⟨512 * q.val + l.val, by omega⟩ = col ⟨q.val, by omega⟩ l :=
  Fin.ext (by unfold colQ col base; fin_cases q <;> simp)

theorem colX_block (q : Fin 2) (l : Fin 512) : colX ⟨512 * q.val + l.val, by omega⟩ = col ⟨3 + q.val, by omega⟩ l :=
  Fin.ext (by unfold colX col base; have := l.isLt; fin_cases q <;> simp)

theorem colB_block (l : Fin 512) : colB l = col 5 l :=
  Fin.ext (by unfold colB col base; simp)

theorem colZ_block (q : Fin 3) (l : Fin 512) : colZ ⟨512 * q.val + l.val, by omega⟩ = col ⟨6 + q.val, by omega⟩ l := by
  unfold colZ
  have := l.isLt
  have e1 : (512 * q.val + l.val) / 512 = q.val := by omega
  have e2 : (512 * q.val + l.val) % 512 = l.val := by omega
  congr 1 <;> apply Fin.ext
  · show 6 + (512 * q.val + l.val) / 512 = 6 + q.val
    rw [e1]
  · exact e2

theorem colG_block (q : Fin 6) (l : Fin 512) : colG ⟨512 * q.val + l.val, by omega⟩ = col ⟨9 + q.val, by omega⟩ l :=
  Fin.ext (by unfold colG col base; fin_cases q <;> simp <;> omega)

variable (X : Fin 4 → Fin 8192 → Fin 1024 → EReal) (M : Fin 4 → Fin 6144 → EReal) (N : Fin 1024 → EReal)
  (W : Fin 1024 → Fin 7696 → EReal) (T4 : Fin 4 → Fin 1536 → EReal) (T5 : Fin 4 → Fin 1024 → EReal) (B6 : Fin 1024 → EReal)
  (T7 : Fin 4 → Fin 512 → EReal) (B8 : Fin 512 → EReal)

/-- The query, key and value columns: taps and activation. -/
def g7 (b : Fin 4) (s : Fin 8192) (l : Fin 1536) : EReal := silu (cv X M N W (fun k => T4 k l) b s (colQ l))

/-- The state-space columns: taps, bias and activation. -/
def g8 (b : Fin 4) (s : Fin 8192) (l : Fin 1024) : EReal := silu (cv X M N W (fun k => T5 k l) b s (colX l) + B6 l)

/-- The recurrence's columns: taps and bias. -/
def g9 (b : Fin 4) (s : Fin 8192) (l : Fin 512) : EReal := cv X M N W (fun k => T7 k l) b s (colB l) + B8 l

/-- The gates' columns. -/
def g10 (b : Fin 4) (s : Fin 8192) (l : Fin 1536) : EReal := P X M N W b s (colZ l)

/-- The feed-forward columns. -/
def g11 (b : Fin 4) (s : Fin 8192) (l : Fin 3072) : EReal := P X M N W b s (colG l)

/-- The small columns, then zeros. -/
def g12 (b : Fin 4) (s : Fin 8192) (l : Fin 128) : EReal :=
  if h : l.val < 8 then P X M N W b s ⟨2048 + l.val, by omega⟩ else
    if h : l.val < 16 then P X M N W b s ⟨3592 + (l.val - 8), by omega⟩ else 0

/-- A column is a place in a block of 512. -/
theorem split_col (n a : ℕ) (h : n = 512 * a) (y : Fin n) :
    ∃ (q : Fin a) (l : Fin 512), y = ⟨512 * q.val + l.val, by omega⟩ :=
  ⟨⟨y.val / 512, by omega⟩, ⟨y.val % 512, by omega⟩, Fin.ext (by show y.val = 512 * (y.val / 512) + y.val % 512; omega)⟩

end Cert.Inproj
end
-- ==== Proof.InprojValue.lean ====
/-
  The projection kernel's six result arrays from the argument arrays.
-/
module

public import proofs.«01_k».proof.Proof.InprojSmall
public import proofs.«01_k».proof.Proof.InprojWin
public import proofs.«01_k».proof.Proof.InprojGoal

@[expose] public section

set_option maxRecDepth 16384

noncomputable section

namespace Cert.Inproj

open Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg)

theorem rd4 (c : Dev nD) (t : Fin cfg0.N) (k : Fin 1024) (y : Fin 7808) : (iblk m c 4 t (ix2 k y) : EReal)
    = wall (m ((c : Thread nD τ).loc main_arg3)) (ix2 k y) := by
  blk_simp [iblk]
  rw [show ((View.whole main_v29).slice (win0_4.rect t)).emb (ix2 k y) = ix2 k y from by blk_ext [i4 t], V29]

/-- The argument arrays as functions of their places. -/
abbrev aX (c : Dev nD) : Fin 4 → Fin 8192 → Fin 1024 → EReal := fun b s k => m ((c : Thread nD τ).loc main_arg0) (ix3 b s k)
abbrev aM (c : Dev nD) : Fin 4 → Fin 6144 → EReal := fun b k => m ((c : Thread nD τ).loc main_arg1) (ix2 b k)
abbrev aN (c : Dev nD) : Fin 1024 → EReal := fun k => m ((c : Thread nD τ).loc main_arg2) (ix1 k)
abbrev aW (c : Dev nD) : Fin 1024 → Fin 7696 → EReal := fun k j => m ((c : Thread nD τ).loc main_arg3) (ix2 k j)
abbrev aT4 (c : Dev nD) : Fin 4 → Fin 1536 → EReal := fun k j => m ((c : Thread nD τ).loc main_arg4) (ix2 k j)
abbrev aT5 (c : Dev nD) : Fin 4 → Fin 1024 → EReal := fun k j => m ((c : Thread nD τ).loc main_arg5) (ix2 k j)
abbrev aB6 (c : Dev nD) : Fin 1024 → EReal := fun k => m ((c : Thread nD τ).loc main_arg6) (ix1 k)
abbrev aT7 (c : Dev nD) : Fin 4 → Fin 512 → EReal := fun k j => m ((c : Thread nD τ).loc main_arg7) (ix2 k j)
abbrev aB8 (c : Dev nD) : Fin 512 → EReal := fun k => m ((c : Thread nD τ).loc main_arg8) (ix1 k)

/-- A block's modulated rows. -/
def hB (c : Dev nD) (t : Fin cfg0.N) : FVec Ideal S512x1024 .bf16 :=
  k0_pay4 (iblk m c 0 t) (iblk m c 1 t) (iblk m c 2 t) (iblk m c 3 t)

theorem hB_apply (c : Dev nD) (t : Fin cfg0.N) (r : Fin 512) (k : Fin 1024) :
    hB m c t (ix2 r k) = hh (aX m c) (aM m c) (aN m c) (tb t) (ts t r) k := by
  unfold hB hh
  rw [hid_apply]
  simp only [rd0, rd1, rd2, rd3]

/-- A block of rows times a block of columns is the projection there. -/
theorem mm_at (c : Dev nD) (t : Fin cfg0.N) (q : Fin 15) (r l : Fin 512) :
    mmT (hB m c t) (Wc (iblk m c 4 t) q) (ix2 r l) = P (aX m c) (aM m c) (aN m c) (aW m c) (tb t) (ts t r) (col q l) := by
  rw [mmT_apply]
  unfold P
  refine Finset.sum_congr rfl fun k _ => ?_
  rw [hB_apply, Wc_apply, rd4, wall_apply]

theorem small_at (c : Dev nD) (t : Fin cfg0.N) (r : Fin 512) (l : Fin 128) :
    ∑ k : Fin 1024, hB m c t (ix2 r k) * Ws (iblk m c 4 t) (ix2 k l)
      = g12 (aX m c) (aM m c) (aN m c) (aW m c) (tb t) (ts t r) l := by
  have e : ∀ k : Fin 1024, hB m c t (ix2 r k) * Ws (iblk m c 4 t) (ix2 k l)
      = hh (aX m c) (aM m c) (aN m c) (tb t) (ts t r) k * wsmall (m ((c : Thread nD τ).loc main_arg3)) (ix2 k l) := fun k => by
    rw [hB_apply, Ws_apply, rd4, wall_small]
  rw [Finset.sum_congr rfl fun k _ => e k]
  unfold g12
  split_ifs with h1 h2
  · unfold P
    refine Finset.sum_congr rfl fun k _ => ?_
    rw [wsmall_apply, dif_pos h1]
  · unfold P
    refine Finset.sum_congr rfl fun k _ => ?_
    rw [wsmall_apply, dif_neg h1, dif_pos h2]
  · refine Finset.sum_eq_zero fun k _ => ?_
    rw [wsmall_apply, dif_neg h1, dif_neg h2, mul_zero]

/-- The rows carried into a block: the eight before it, zero at a batch's first block. -/
def Good (c : Dev nD) (t : Fin cfg0.N) (p : Fin 6 → Vec Ideal S1x8x512 .f32) : Prop :=
  ∀ (j : Fin 6) (r : Fin 8) (l : Fin 512), p j (ix3 0 r l) = if t.val % 16 = 0 then (0 : EReal) else
    P (aX m c) (aM m c) (aN m c) (aW m c) (tb t) ⟨(t.val % 16 * 512 + 8184 + r.val) % 8192, Nat.mod_lt _ (by norm_num)⟩ (col ⟨j.val, by omega⟩ l)

/-- What stands above a row, across the block's first row. -/
theorem above_at (c : Dev nD) (t : Fin cfg0.N) (p : Fin 6 → Vec Ideal S1x8x512 .f32) (hp : Good m c t p) (j : Fin 6)
    (n : ℕ) (hn : 0 < n ∧ n < 4) (r l : Fin 512) :
    above (fun r => mmT (hB m c t) (Wc (iblk m c 4 t) ⟨j.val, by omega⟩) (ix2 r l)) (fun r => p j (ix3 0 r l)) n r
      = up (aX m c) (aM m c) (aN m c) (aW m c) (tb t) n (ts t r) (col ⟨j.val, by omega⟩ l) := by
  have hr := r.isLt
  have hts : (ts t r).val = t.val % 16 * 512 + r.val := rfl
  unfold above up
  by_cases h : r.val < n
  · rw [dif_pos h]
    refine (hp j _ l).trans ?_
    by_cases h0 : t.val % 16 = 0
    · rw [if_pos h0, dif_pos (show (ts t r).val < n by rw [hts]; omega)]
    · rw [if_neg h0, dif_neg (show ¬ (ts t r).val < n by rw [hts]; omega)]
      refine congrArg (fun s => P _ _ _ _ (tb t) s _) (Fin.ext ?_)
      show (t.val % 16 * 512 + 8184 + (8 - n + r.val) % 8) % 8192 = t.val % 16 * 512 + r.val - n
      omega
  · rw [dif_neg h, dif_neg (show ¬ (ts t r).val < n by rw [hts]; omega)]
    refine (mm_at m c t _ _ l).trans ?_
    refine congrArg (fun s => P _ _ _ _ (tb t) s _) (Fin.ext ?_)
    show t.val % 16 * 512 + (r.val - n) = t.val % 16 * 512 + r.val - n
    omega

/-- A block's taps are the taps of the projection. -/
theorem Cv_at (c : Dev nD) (t : Fin cfg0.N) (p : Fin 6 → Vec Ideal S1x8x512 .f32) (hp : Good m c t p) (s : BitVec 32) (j : Fin 6)
    (r l : Fin 512) (h0 : 0 ≤ Ideal.ofBits .f32 s) (ht : Ideal.ofBits .f32 s ≠ ⊤) :
    Cv (hB m c t) (iblk m c 4 t) (iblk m c 5 t) p s j (ix2 r l) = Ideal.ofBits .f32 s *
      cv (aX m c) (aM m c) (aN m c) (aW m c) (fun k => Tc (iblk m c 5 t) k j (ix2 0 l)) (tb t) (ts t r) (col ⟨j.val, by omega⟩ l) := by
  rw [Cv_apply _ _ _ _ _ _ _ _ h0 ht, above_at m c t p hp j 1 (by omega), above_at m c t p hp j 2 (by omega),
    above_at m c t p hp j 3 (by omega), mm_at]
  rfl

/-- What a point leaves in the carried rows. -/
theorem carried (c : Dev nD) (t : Fin cfg0.N) (j : Fin 6) (r : Fin 8) (l : Fin 512) :
    (outsAt0 m c t.val t.isLt).2.2.2.2.2.2 (ix3 j r l)
      = P (aX m c) (aM m c) (aN m c) (aW m c) (tb t) (ts t ⟨504 + r.val, by omega⟩) (col ⟨j.val, by omega⟩ l) := by
  by_cases h0 : t.val % 16 = 0
  · rw [outsAt0_A m c t h0]
    dsimp only
    rw [soutA, LS_apply]
    exact mm_at m c t _ _ l
  · obtain ⟨n, hn⟩ := t
    cases n with
    | zero => exact absurd rfl h0
    | succ n =>
      show (outsAt0 m c (n + 1) hn).2.2.2.2.2.2 _ = _
      rw [Cert.Kernel3Ideal.Value.outsAt0_succ, Cert.Kernel3Ideal.Value.stAt0_B m c ⟨n + 1, hn⟩ _ h0]
      dsimp only
      rw [soutB, ← List.append_nil (LS _ _), LS_apply]
      exact mm_at m c _ _ _ l

/-- What a point leaves in the result blocks. -/
theorem point (c : Dev nD) (t : Fin cfg0.N) : ∃ p : Fin 6 → Vec Ideal S1x8x512 .f32, Good m c t p
    ∧ (outsAt0 m c t.val t.isLt).1 = View.canon (L7 (hB m c t) (iblk m c 4 t) (iblk m c 5 t) p)
    ∧ (outsAt0 m c t.val t.isLt).2.1 = View.canon (L8 (hB m c t) (iblk m c 4 t) (iblk m c 5 t) (iblk m c 6 t) p)
    ∧ (outsAt0 m c t.val t.isLt).2.2.1 = View.canon (L9 (hB m c t) (iblk m c 4 t) (iblk m c 5 t) (iblk m c 6 t) p)
    ∧ (outsAt0 m c t.val t.isLt).2.2.2.1 = View.canon (L10 (hB m c t) (iblk m c 4 t))
    ∧ (outsAt0 m c t.val t.isLt).2.2.2.2.1 = View.canon (L11 (hB m c t) (iblk m c 4 t))
    ∧ (outsAt0 m c t.val t.isLt).2.2.2.2.2.1 = View.canon (L12 (hB m c t) (iblk m c 4 t)) := by
  by_cases h0 : t.val % 16 = 0
  · rw [outsAt0_A m c t h0]
    dsimp only
    refine ⟨Pz, fun j r l => ?_, outA7 .., outA8 .., outA9 .., outA10 .., outA11 .., outA12 ..⟩
    rw [if_pos h0, Pz_apply]
  · obtain ⟨n, hn⟩ := t
    cases n with
    | zero => exact absurd rfl h0
    | succ n =>
      have hn' : n + 1 < 64 := hn
      have h0' : ¬ (n + 1) % 16 = 0 := h0
      dsimp only
      rw [Cert.Kernel3Ideal.Value.outsAt0_succ, Cert.Kernel3Ideal.Value.stAt0_B m c ⟨n + 1, hn⟩ _ h0]
      dsimp only
      refine ⟨Pc (outsAt0 m c n (Nat.lt_of_succ_lt hn)).2.2.2.2.2.2, fun j r l => ?_, outB7 .., outB8 .., outB9 .., outB10 .., outB11 .., outB12 ..⟩
      rw [if_neg h0, Pc_apply]
      refine (carried m c ⟨n, Nat.lt_of_succ_lt hn⟩ j r l).trans ?_
      have eb : tb ⟨n, Nat.lt_of_succ_lt hn⟩ = tb ⟨n + 1, hn⟩ := Fin.ext (by show n / 16 = (n + 1) / 16; omega)
      rw [eb]
      refine congrArg (fun s => P _ _ _ _ _ s _) (Fin.ext ?_)
      show n % 16 * 512 + (504 + r.val) = ((n + 1) % 16 * 512 + 8184 + r.val) % 8192
      omega

/-- Every element of the arguments the taps and the activations read is a real number. -/
structure AllR (c : Dev nD) : Prop where
  x : ∀ b s k, IsR (aX m c b s k)
  md : ∀ b k, IsR (aM m c b k)
  n : ∀ k, IsR (aN m c k)
  w : ∀ k j, IsR (aW m c k j)
  t4 : ∀ k j, IsR (aT4 m c k j)
  t5 : ∀ k j, IsR (aT5 m c k j)
  b6 : ∀ j, IsR (aB6 m c j)

theorem half_nn : 0 ≤ Ideal.ofBits .f32 0x3F000000#32 ∧ Ideal.ofBits .f32 0x3F000000#32 ≠ ⊤ := by
  rw [Cert.Scan.half_f32]
  exact ⟨by exact_mod_cast (by norm_num : (0 : ℝ) ≤ 1 / 2), EReal.coe_ne_top _⟩

theorem one_nn : 0 ≤ Ideal.ofBits .f32 0x3F800000#32 ∧ Ideal.ofBits .f32 0x3F800000#32 ≠ ⊤ := by
  rw [one_f32]
  exact ⟨by exact_mod_cast (by norm_num : (0 : ℝ) ≤ 1), EReal.coe_ne_top _⟩

theorem outs7 (c : Dev nD) (hR : AllR m c) (t : Fin cfg0.N) (r : Fin 512) (y : Fin 1536) :
    (outsAt0 m c t.val t.isLt).1 (ix3 0 r y)
      = g7 (aX m c) (aM m c) (aN m c) (aW m c) (aT4 m c) (tb t) (ts t r) y := by
  obtain ⟨p, hp, h7, h8, h9, h10, h11, h12⟩ := point m c t
  obtain ⟨q, l, rfl⟩ := split_col 1536 3 rfl y
  have hl := l.isLt
  rw [h7, L7_apply, act_apply, Cv_at m c t p hp _ _ _ _ half_nn.1 half_nn.2]
  have e : (fun k => Tc (iblk m c 5 t) k ⟨q.val, by omega⟩ (ix2 0 l)) = fun k => aT4 m c k ⟨512 * q.val + l.val, by omega⟩ := by
    funext k
    rw [Tc_apply, rd5, tcat_apply, dif_pos (show 512 * q.val + l.val < 1536 by omega)]
  unfold g7
  rw [e, colQ_block]
  exact silu_half _ (cv_isR _ _ _ _ (P_isR _ _ _ _ hR.x hR.md hR.n hR.w) _ (fun k => hR.t4 k _) _ _ _)

theorem outs8 (c : Dev nD) (hR : AllR m c) (t : Fin cfg0.N) (r : Fin 512) (y : Fin 1024) :
    (outsAt0 m c t.val t.isLt).2.1 (ix3 0 r y)
      = g8 (aX m c) (aM m c) (aN m c) (aW m c) (aT5 m c) (aB6 m c) (tb t) (ts t r) y := by
  obtain ⟨p, hp, h7, h8, h9, h10, h11, h12⟩ := point m c t
  obtain ⟨q, l, rfl⟩ := split_col 1024 2 rfl y
  have hl := l.isLt
  have hi : (⟨512 * (3 + q.val) + l.val - 1536, by omega⟩ : Fin 1024) = ⟨512 * q.val + l.val, by omega⟩ :=
    Fin.ext (by show 512 * (3 + q.val) + l.val - 1536 = 512 * q.val + l.val; omega)
  rw [h8, L8_apply, act_apply, biased_apply, Cv_at m c t p hp _ _ _ _ half_nn.1 half_nn.2, bias_scale _ half_nn.1 half_nn.2]
  have e : (fun k => Tc (iblk m c 5 t) k ⟨3 + q.val, by omega⟩ (ix2 0 l)) = fun k => aT5 m c k ⟨512 * q.val + l.val, by omega⟩ := by
    funext k
    rw [Tc_apply, rd5, tcat_apply, dif_neg (show ¬ 512 * (3 + q.val) + l.val < 1536 by omega),
      dif_pos (show 512 * (3 + q.val) + l.val - 1536 < 1024 by omega), hi]
  have e2 : Bc (iblk m c 6 t) ⟨3 + q.val, by omega⟩ (ix2 0 l) = aB6 m c ⟨512 * q.val + l.val, by omega⟩ := by
    rw [Bc_apply, rd6, bcat_apply _ _ _ (show ¬ 512 * (3 + q.val) + l.val < 1536 by omega),
      dif_pos (show 512 * (3 + q.val) + l.val - 1536 < 1024 by omega), hi]
  unfold g8
  rw [e, e2, colX_block]
  exact silu_half _ ((cv_isR _ _ _ _ (P_isR _ _ _ _ hR.x hR.md hR.n hR.w) _ (fun k => hR.t5 k _) _ _ _).add (hR.b6 _))

theorem outs9 (c : Dev nD) (t : Fin cfg0.N) (r : Fin 512) (l : Fin 512) :
    (outsAt0 m c t.val t.isLt).2.2.1 (ix3 0 r l)
      = g9 (aX m c) (aM m c) (aN m c) (aW m c) (aT7 m c) (aB8 m c) (tb t) (ts t r) l := by
  obtain ⟨p, hp, h7, h8, h9, h10, h11, h12⟩ := point m c t
  have hl := l.isLt
  rw [h9, L9_apply, biased_apply, Cv_at m c t p hp _ _ _ _ one_nn.1 one_nn.2, bias_scale _ one_nn.1 one_nn.2, one_f32]
  have hi : (⟨512 * 5 + l.val - 1536 - 1024, by omega⟩ : Fin 512) = l := Fin.ext (by show 512 * 5 + l.val - 1536 - 1024 = l.val; omega)
  have e : (fun k => Tc (iblk m c 5 t) k 5 (ix2 0 l)) = fun k => aT7 m c k l := by
    funext k
    rw [Tc_apply, rd5, tcat_apply]
    show dite (512 * 5 + l.val < 1536) _ _ = _
    rw [dif_neg (show ¬ 512 * 5 + l.val < 1536 by omega)]
    show dite (512 * 5 + l.val - 1536 < 1024) _ _ = _
    rw [dif_neg (show ¬ 512 * 5 + l.val - 1536 < 1024 by omega)]
    exact congrArg (fun i => aT7 m c k i) hi
  have e2 : Bc (iblk m c 6 t) 5 (ix2 0 l) = aB8 m c l := by
    rw [Bc_apply, rd6, bcat_apply _ _ _ (show ¬ 512 * 5 + l.val < 1536 by omega)]
    show dite (512 * 5 + l.val - 1536 < 1024) _ _ = _
    rw [dif_neg (show ¬ 512 * 5 + l.val - 1536 < 1024 by omega)]
    exact congrArg (fun i => aB8 m c i) hi
  unfold g9
  rw [e, e2, colB_block]
  exact one_mul _

theorem outs10 (c : Dev nD) (t : Fin cfg0.N) (r : Fin 512) (y : Fin 1536) :
    (outsAt0 m c t.val t.isLt).2.2.2.1 (ix3 0 r y) = g10 (aX m c) (aM m c) (aN m c) (aW m c) (tb t) (ts t r) y := by
  obtain ⟨p, hp, h7, h8, h9, h10, h11, h12⟩ := point m c t
  obtain ⟨q, l, rfl⟩ := split_col 1536 3 rfl y
  unfold g10
  rw [h10, L10_apply, mm_at, colZ_block]

theorem outs11 (c : Dev nD) (t : Fin cfg0.N) (r : Fin 512) (y : Fin 3072) :
    (outsAt0 m c t.val t.isLt).2.2.2.2.1 (ix3 0 r y) = g11 (aX m c) (aM m c) (aN m c) (aW m c) (tb t) (ts t r) y := by
  obtain ⟨p, hp, h7, h8, h9, h10, h11, h12⟩ := point m c t
  obtain ⟨q, l, rfl⟩ := split_col 3072 6 rfl y
  unfold g11
  rw [h11, L11_apply, mm_at, colG_block]

theorem outs12 (c : Dev nD) (t : Fin cfg0.N) (r : Fin 512) (y : Fin 128) :
    (outsAt0 m c t.val t.isLt).2.2.2.2.2.1 (ix3 0 r y) = g12 (aX m c) (aM m c) (aN m c) (aW m c) (tb t) (ts t r) y := by
  obtain ⟨p, hp, h7, h8, h9, h10, h11, h12⟩ := point m c t
  rw [h12, L12_apply, small_at]

end Cert.Inproj
end
-- ==== Proof.InprojFinal.lean ====
/-
  The projection kernel's run, with its six result arrays as functions of the argument arrays.
-/
module

public import proofs.«01_k».proof.Proof.InprojValue

@[expose] public section

set_option maxRecDepth 16384

noncomputable section

namespace Cert.Inproj

open Idealize.ShloMosaic Idealize.ShloMosaic.TcCoe Idealize.SL.Sem Cert.Kernel3Ideal Cert.Kernel3Ideal.Gen

variable (m : (ℓ : Loc nD τ sig) → Buf (Elt Ideal) ℓ) (ρ : Dev nD → PrngReg)

/-- The results as functions of the argument arrays. -/
def G7 (c : Dev nD) : FVec Ideal S4x8192x1536 .bf16 := fun i => g7 (aX m c) (aM m c) (aN m c) (aW m c) (aT4 m c) (i 0) (i 1) (i 2)
def G8 (c : Dev nD) : FVec Ideal S4x8192x1024 .bf16 := fun i => g8 (aX m c) (aM m c) (aN m c) (aW m c) (aT5 m c) (aB6 m c) (i 0) (i 1) (i 2)
def G9 (c : Dev nD) : FVec Ideal S4x8192x512 .bf16 := fun i => g9 (aX m c) (aM m c) (aN m c) (aW m c) (aT7 m c) (aB8 m c) (i 0) (i 1) (i 2)
def G10 (c : Dev nD) : FVec Ideal S4x8192x1536 .bf16 := fun i => g10 (aX m c) (aM m c) (aN m c) (aW m c) (i 0) (i 1) (i 2)
def G11 (c : Dev nD) : FVec Ideal S4x8192x3072 .bf16 := fun i => g11 (aX m c) (aM m c) (aN m c) (aW m c) (i 0) (i 1) (i 2)
def G12 (c : Dev nD) : FVec Ideal S4x8192x128 .f32 := fun i => g12 (aX m c) (aM m c) (aN m c) (aW m c) (i 0) (i 1) (i 2)

/-- A place of a block of one batch. -/
theorem place {n : ℕ} (y : (⟨3, ![1, 512, n]⟩ : Shape).Idx) : ∃ (r : Fin 512) (l : Fin n), y = ix3 0 r l :=
  ⟨y 1, y 2, by funext a; fin_cases a <;> first | rfl | exact Subsingleton.elim (α := Fin 1) _ _⟩

theorem emb7 (t : Fin cfg0.N) (r : Fin 512) (l : Fin 1536) :
    ((cfg0.win 7).blk t).view.emb (ix3 0 r l) = ix3 (tb t) (ts t r) l := by unfold tb ts; blk_ext [i7 t]
theorem emb8 (t : Fin cfg0.N) (r : Fin 512) (l : Fin 1024) :
    ((cfg0.win 8).blk t).view.emb (ix3 0 r l) = ix3 (tb t) (ts t r) l := by unfold tb ts; blk_ext [i8 t]
theorem emb9 (t : Fin cfg0.N) (r : Fin 512) (l : Fin 512) :
    ((cfg0.win 9).blk t).view.emb (ix3 0 r l) = ix3 (tb t) (ts t r) l := by unfold tb ts; blk_ext [i9 t]
theorem emb10 (t : Fin cfg0.N) (r : Fin 512) (l : Fin 1536) :
    ((cfg0.win 10).blk t).view.emb (ix3 0 r l) = ix3 (tb t) (ts t r) l := by unfold tb ts; blk_ext [i10 t]
theorem emb11 (t : Fin cfg0.N) (r : Fin 512) (l : Fin 3072) :
    ((cfg0.win 11).blk t).view.emb (ix3 0 r l) = ix3 (tb t) (ts t r) l := by unfold tb ts; blk_ext [i11 t]
theorem emb12 (t : Fin cfg0.N) (r : Fin 512) (l : Fin 128) :
    ((cfg0.win 12).blk t).view.emb (ix3 0 r l) = ix3 (tb t) (ts t r) l := by unfold tb ts; blk_ext [i12 t]

/-- A point's blocks at the places of the result arrays they are of, and the result arrays after the run. -/
theorem at7 (c : Dev nD) (hR : AllR m c) (t : Fin cfg0.N) (y : S1x512x1536.Idx) :
    (outsAt0 m c t.val t.isLt).1 y = G7 m c (((cfg0.win 7).blk t).view.emb y) := by
  obtain ⟨r, l, rfl⟩ := place y
  rw [emb7]
  exact outs7 m c hR t r l
theorem final7 (c : Dev nD) (hR : AllR m c) : (dats m 0 c).arrAt 7 cfg0.N = G7 m c := by
  refine (dats m 0 c).arrAt_eq_of_covers 7 _ (by decide +kernel) fun t _ y => ?_
  blk_simp
  rw [after0_7]
  exact at7 m c hR t y

theorem at8 (c : Dev nD) (hR : AllR m c) (t : Fin cfg0.N) (y : S1x512x1024.Idx) :
    (outsAt0 m c t.val t.isLt).2.1 y = G8 m c (((cfg0.win 8).blk t).view.emb y) := by
  obtain ⟨r, l, rfl⟩ := place y
  rw [emb8]
  exact outs8 m c hR t r l
theorem final8 (c : Dev nD) (hR : AllR m c) : (dats m 0 c).arrAt 8 cfg0.N = G8 m c := by
  refine (dats m 0 c).arrAt_eq_of_covers 8 _ (by decide +kernel) fun t _ y => ?_
  blk_simp
  rw [after0_8]
  exact at8 m c hR t y

theorem at9 (c : Dev nD) (t : Fin cfg0.N) (y : S1x512x512.Idx) :
    (outsAt0 m c t.val t.isLt).2.2.1 y = G9 m c (((cfg0.win 9).blk t).view.emb y) := by
  obtain ⟨r, l, rfl⟩ := place y
  rw [emb9]
  exact outs9 m c t r l
theorem final9 (c : Dev nD) : (dats m 0 c).arrAt 9 cfg0.N = G9 m c := by
  refine (dats m 0 c).arrAt_eq_of_covers 9 _ (by decide +kernel) fun t _ y => ?_
  blk_simp
  rw [after0_9]
  exact at9 m c t y

theorem at10 (c : Dev nD) (t : Fin cfg0.N) (y : S1x512x1536.Idx) :
    (outsAt0 m c t.val t.isLt).2.2.2.1 y = G10 m c (((cfg0.win 10).blk t).view.emb y) := by
  obtain ⟨r, l, rfl⟩ := place y
  rw [emb10]
  exact outs10 m c t r l
theorem final10 (c : Dev nD) : (dats m 0 c).arrAt 10 cfg0.N = G10 m c := by
  refine (dats m 0 c).arrAt_eq_of_covers 10 _ (by decide +kernel) fun t _ y => ?_
  blk_simp
  rw [after0_10]
  exact at10 m c t y

theorem at11 (c : Dev nD) (t : Fin cfg0.N) (y : S1x512x3072.Idx) :
    (outsAt0 m c t.val t.isLt).2.2.2.2.1 y = G11 m c (((cfg0.win 11).blk t).view.emb y) := by
  obtain ⟨r, l, rfl⟩ := place y
  rw [emb11]
  exact outs11 m c t r l
theorem final11 (c : Dev nD) : (dats m 0 c).arrAt 11 cfg0.N = G11 m c := by
  refine (dats m 0 c).arrAt_eq_of_covers 11 _ (by decide +kernel) fun t _ y => ?_
  blk_simp
  rw [after0_11]
  exact at11 m c t y

theorem at12 (c : Dev nD) (t : Fin cfg0.N) (y : S1x512x128.Idx) :
    (outsAt0 m c t.val t.isLt).2.2.2.2.2.1 y = G12 m c (((cfg0.win 12).blk t).view.emb y) := by
  obtain ⟨r, l, rfl⟩ := place y
  rw [emb12]
  exact outs12 m c t r l
theorem final12 (c : Dev nD) : (dats m 0 c).arrAt 12 cfg0.N = G12 m c := by
  refine (dats m 0 c).arrAt_eq_of_covers 12 _ (by decide +kernel) fun t _ y => ?_
  blk_simp
  rw [after0_12]
  exact at12 m c t y

/-- The run with the results at those functions. -/
theorem run (hR : ∀ c, AllR m c) : θ_run defs (onTc (τ := τ) (main (F := Ideal))) ⟨m, fun _ => 0, ρ⟩ fun r => ∀ c : Dev nD,
      r.2.mem ((c : Thread nD τ).loc main_v35_0) = G7 m c
      ∧ r.2.mem ((c : Thread nD τ).loc main_v35_1) = G8 m c
      ∧ r.2.mem ((c : Thread nD τ).loc main_v35_2) = G9 m c
      ∧ r.2.mem ((c : Thread nD τ).loc main_v35_3) = G10 m c
      ∧ r.2.mem ((c : Thread nD τ).loc main_v35_4) = G11 m c
      ∧ r.2.mem ((c : Thread nD τ).loc main_v35_5) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final7 m c (hR c)), (h c).2.1.trans (final8 m c (hR c)),
    (h c).2.2.1.trans (final9 m c), (h c).2.2.2.1.trans (final10 m c), (h c).2.2.2.2.1.trans (final11 m c),
    (h c).2.2.2.2.2.1.trans (final12 m c), (h c).2.2.2.2.2.2⟩) (Cert.Kernel3Ideal.Value.run_blocks m ρ)

end Cert.Inproj
end
-- ==== Proof.InprojRef.lean ====
/-
  The projection reference's six result arrays from the argument arrays.
-/
module

public import proofs.«01_k».proof.Proof.InprojGoal
public import proofs.«01_k».proof.Proof.Gen.Reference3Ideal.Read
public import Idealize.ShloMosaic.Lib.IdealHost

@[expose] public section

set_option maxRecDepth 16384

noncomputable section

namespace Cert.Inproj.Ref

open Idealize.ShloMosaic Cert.Reference3Ideal Cert.Reference3Ideal.Gen Cert.Reference3Ideal.Value Cert.Reference3Ideal.Read

variable (x0 : FVec Ideal S4x8192x1024 .f32) (x1 : FVec Ideal S4x6144 .f32) (x2 : FVec Ideal S1024 .f32)
  (x3 : FVec Ideal S1024x7696 .f32) (x4 : FVec Ideal S4x1536 .f32) (x5 : FVec Ideal S4x1024 .f32) (x6 : FVec Ideal S1024 .f32)
  (x7 : FVec Ideal S4x512 .f32) (x8 : FVec Ideal S512 .f32) (b : Fin 4) (s : Fin 8192)

abbrev rX : Fin 4 → Fin 8192 → Fin 1024 → EReal := fun b s k => x0 (ix3 b s k)
abbrev rM : Fin 4 → Fin 6144 → EReal := fun b k => x1 (ix2 b k)
abbrev rN : Fin 1024 → EReal := fun k => x2 (ix1 k)
abbrev rW : Fin 1024 → Fin 7696 → EReal := fun k j => x3 (ix2 k j)

theorem sitofp_nought : FloatOps.sitofp (F := Ideal) FTy.f32 0#32 = (0 : EReal) := by
  show ((((0#32 : BitVec 32).toInt : ℤ) : ℝ) : EReal) = 0
  simp

theorem v22_apply (k : Fin 1024) : val_main_v22 (F := Ideal) x0 x1 x2 (ix3 b s k) = hh (rX x0) (rM x1) (rN x2) b s k := by
  unfold hh Merge.hid Merge.rms
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]

theorem v23_apply (j : Fin 7696) : val_main_v23 (F := Ideal) x0 x1 x2 x3 (ix3 b s j) = P (rX x0) (rM x1) (rN x2) (rW x3) b s j := by
  have h := v22_apply x0 x1 x2 b s
  unfold P
  unfold val_main_v23
  generalize val_main_v22 (F := Ideal) x0 x1 x2 = y at h
  pointwise
  exact Finset.sum_congr rfl fun k _ => by rw [h]

/-- Rows of zeros before the first are what stands above the first. -/
theorem up_pad (Y : Fin 8192 → EReal) (j : Fin 7696) (hY : ∀ s, Y s = P (rX x0) (rM x1) (rN x2) (rW x3) b s j) (d n a : ℕ) (hd : d + n = 3)
    (ha : a = n + s.val) (hn : 0 < d) :
    up (rX x0) (rM x1) (rN x2) (rW x3) b d s j = if h : 3 ≤ a ∧ a - 3 < 8192 then Y ⟨a - 3, h.2⟩ else FloatOps.sitofp (F := Ideal) FTy.f32 0#32 := by
  unfold up
  have hs := s.isLt
  by_cases h : 3 ≤ a
  · rw [dif_neg (show ¬ s.val < d by omega), dif_pos (show 3 ≤ a ∧ a - 3 < 8192 from ⟨h, by omega⟩), hY]
    exact congrArg (fun i => P _ _ _ _ b i j) (Fin.ext (by show s.val - d = a - 3; omega))
  · rw [dif_pos (show s.val < d by omega), dif_neg (show ¬ (3 ≤ a ∧ a - 3 < 8192) from fun h' => h h'.1), sitofp_nought]

theorem taps_order (u0 u1 u2 u3 w0 w1 w2 w3 : EReal) :
    u0 * w0 + u1 * w1 + u2 * w2 + u3 * w3 = w3 * u3 + w2 * u2 + w1 * u1 + w0 * u0 := by
  rw [mul_comm u0, mul_comm u1, mul_comm u2, mul_comm u3]
  ac_rfl

theorem v24_apply (l : Fin 1536) : val_main_v24 (F := Ideal) x0 x1 x2 x3 (ix3 b s l) = P (rX x0) (rM x1) (rN x2) (rW x3) b s (colQ l) := by
  rw [← v23_apply]
  unfold val_main_v24
  generalize val_main_v23 (F := Ideal) x0 x1 x2 x3 = y
  unfold colQ
  pointwise

theorem v58_apply (l : Fin 1024) : val_main_v58 (F := Ideal) x0 x1 x2 x3 (ix3 b s l) = P (rX x0) (rM x1) (rN x2) (rW x3) b s (colX l) := by
  have ha : ∀ k : Fin 512, val_main_v56 (F := Ideal) x0 x1 x2 x3 (ix3 b s k) = val_main_v23 (F := Ideal) x0 x1 x2 x3 (ix3 b s ⟨2056 + k.val, by omega⟩) := fun k => by
    unfold val_main_v56
    generalize val_main_v23 (F := Ideal) x0 x1 x2 x3 = y
    pointwise
  have hb : ∀ k : Fin 512, val_main_v57 (F := Ideal) x0 x1 x2 x3 (ix3 b s k) = val_main_v23 (F := Ideal) x0 x1 x2 x3 (ix3 b s ⟨3080 + k.val, by omega⟩) := fun k => by
    unfold val_main_v57
    generalize val_main_v23 (F := Ideal) x0 x1 x2 x3 = y
    pointwise
  rw [← v23_apply]
  unfold val_main_v58
  generalize val_main_v56 (F := Ideal) x0 x1 x2 x3 = ya at ha
  generalize val_main_v57 (F := Ideal) x0 x1 x2 x3 = yb at hb
  pointwise
  by_cases h : l.val < 512
  · rw [dif_pos h, ha]
    exact congrArg (fun i => val_main_v23 (F := Ideal) x0 x1 x2 x3 (ix3 b s i)) (Fin.ext (if_pos h).symm)
  · rw [dif_neg h, hb]
    exact congrArg (fun i => val_main_v23 (F := Ideal) x0 x1 x2 x3 (ix3 b s i)) (Fin.ext (if_neg h).symm)

theorem v93_apply (l : Fin 512) : val_main_v93 (F := Ideal) x0 x1 x2 x3 (ix3 b s l) = P (rX x0) (rM x1) (rN x2) (rW x3) b s (colB l) := by
  rw [← v23_apply]
  unfold val_main_v93
  generalize val_main_v23 (F := Ideal) x0 x1 x2 x3 = y
  unfold colB
  pointwise

theorem v54_apply (l : Fin 1536) : val_main_v54 (F := Ideal) x0 x1 x2 x3 x4 (ix3 b s l)
    = cv (rX x0) (rM x1) (rN x2) (rW x3) (fun k => x4 (ix2 k l)) b s (colQ l) := by
  have hy := fun s => v24_apply x0 x1 x2 x3 b s l
  have h0 := up_pad x0 x1 x2 x3 b s _ _ hy 3 0 s.val (by omega) (by omega) (by omega)
  have h1 := up_pad x0 x1 x2 x3 b s _ _ hy 2 1 (1 + s.val) (by omega) (by omega) (by omega)
  have h2 := up_pad x0 x1 x2 x3 b s _ _ hy 1 2 (2 + s.val) (by omega) (by omega) (by omega)
  unfold cv
  rw [← taps_order, h0, h1, h2, ← hy s]
  simp only [val_main_v54, val_main_v53, val_main_v48, val_main_v47, val_main_v46, val_main_v41, val_main_v40, val_main_v39, val_main_v34, val_main_v33, val_main_v31, val_main_v26, val_main_v25]
  generalize val_main_v24 (F := Ideal) x0 x1 x2 x3 = y
  pointwise [val_main_v52, val_main_v51, val_main_v50, val_main_v49, val_main_v45, val_main_v44, val_main_v43, val_main_v42, val_main_v38, val_main_v37, val_main_v36, val_main_v35, val_main_v32, val_main_v30, val_main_v29, val_main_v28, val_main_v27, val_main_cst_3, val_main_call0_v0, val_main_c]

theorem v88_apply (l : Fin 1024) : val_main_v88 (F := Ideal) x0 x1 x2 x3 x5 (ix3 b s l)
    = cv (rX x0) (rM x1) (rN x2) (rW x3) (fun k => x5 (ix2 k l)) b s (colX l) := by
  have hy := fun s => v58_apply x0 x1 x2 x3 b s l
  have h0 := up_pad x0 x1 x2 x3 b s _ _ hy 3 0 s.val (by omega) (by omega) (by omega)
  have h1 := up_pad x0 x1 x2 x3 b s _ _ hy 2 1 (1 + s.val) (by omega) (by omega) (by omega)
  have h2 := up_pad x0 x1 x2 x3 b s _ _ hy 1 2 (2 + s.val) (by omega) (by omega) (by omega)
  unfold cv
  rw [← taps_order, h0, h1, h2, ← hy s]
  simp only [val_main_v88, val_main_v87, val_main_v82, val_main_v81, val_main_v80, val_main_v75, val_main_v74, val_main_v73, val_main_v68, val_main_v67, val_main_v65, val_main_v60, val_main_v59]
  generalize val_main_v58 (F := Ideal) x0 x1 x2 x3 = y
  pointwise [val_main_v86, val_main_v85, val_main_v84, val_main_v83, val_main_v79, val_main_v78, val_main_v77, val_main_v76, val_main_v72, val_main_v71, val_main_v70, val_main_v69, val_main_v66, val_main_v64, val_main_v63, val_main_v62, val_main_v61, val_main_cst_5, val_main_call2_v0, val_main_c_4]

theorem v123_apply (l : Fin 512) : val_main_v123 (F := Ideal) x0 x1 x2 x3 x7 (ix3 b s l)
    = cv (rX x0) (rM x1) (rN x2) (rW x3) (fun k => x7 (ix2 k l)) b s (colB l) := by
  have hy := fun s => v93_apply x0 x1 x2 x3 b s l
  have h0 := up_pad x0 x1 x2 x3 b s _ _ hy 3 0 s.val (by omega) (by omega) (by omega)
  have h1 := up_pad x0 x1 x2 x3 b s _ _ hy 2 1 (1 + s.val) (by omega) (by omega) (by omega)
  have h2 := up_pad x0 x1 x2 x3 b s _ _ hy 1 2 (2 + s.val) (by omega) (by omega) (by omega)
  unfold cv
  rw [← taps_order, h0, h1, h2, ← hy s]
  simp only [val_main_v123, val_main_v122, val_main_v117, val_main_v116, val_main_v115, val_main_v110, val_main_v109, val_main_v108, val_main_v103, val_main_v102, val_main_v100, val_main_v95, val_main_v94]
  generalize val_main_v93 (F := Ideal) x0 x1 x2 x3 = y
  pointwise [val_main_v121, val_main_v120, val_main_v119, val_main_v118, val_main_v114, val_main_v113, val_main_v112, val_main_v111, val_main_v107, val_main_v106, val_main_v105, val_main_v104, val_main_v101, val_main_v99, val_main_v98, val_main_v97, val_main_v96, val_main_cst_7, val_main_call4_v0, val_main_c_6]

theorem v136_apply (l : Fin 1536) : val_main_v136 (F := Ideal) x0 x1 x2 x3 x4 (ix3 b s l)
    = g7 (rX x0) (rM x1) (rN x2) (rW x3) (fun k j => x4 (ix2 k j)) b s l := by
  unfold g7 silu
  rw [← v54_apply, ← one_f32]
  simp only [val_main_v136, val_main_v55, val_main_call1_v5, val_main_call1_v3, val_main_call1_v1, val_main_call1_v0]
  generalize val_main_v54 (F := Ideal) x0 x1 x2 x3 x4 = y
  pointwise [val_main_call1_v4, val_main_call1_v2, val_main_call1_cst, val_main_call1_cst_0]

theorem v137_apply (l : Fin 1024) : val_main_v137 (F := Ideal) x0 x1 x2 x3 x5 x6 (ix3 b s l)
    = g8 (rX x0) (rM x1) (rN x2) (rW x3) (fun k j => x5 (ix2 k j)) (fun k => x6 (ix1 k)) b s l := by
  unfold g8 silu
  rw [← v88_apply, ← one_f32]
  simp only [val_main_v137, val_main_v92, val_main_call3_v5, val_main_call3_v3, val_main_call3_v1, val_main_call3_v0, val_main_v91]
  generalize val_main_v88 (F := Ideal) x0 x1 x2 x3 x5 = y
  pointwise [val_main_call3_v4, val_main_call3_v2, val_main_call3_cst, val_main_call3_cst_0, val_main_v90, val_main_v89]

theorem v138_apply (l : Fin 512) : val_main_v138 (F := Ideal) x0 x1 x2 x3 x7 x8 (ix3 b s l)
    = g9 (rX x0) (rM x1) (rN x2) (rW x3) (fun k j => x7 (ix2 k j)) (fun k => x8 (ix1 k)) b s l := by
  unfold g9
  rw [← v123_apply]
  simp only [val_main_v138, val_main_v126]
  generalize val_main_v123 (F := Ideal) x0 x1 x2 x3 x7 = y
  pointwise [val_main_v125, val_main_v124]

theorem v139_apply (l : Fin 1536) : val_main_v139 (F := Ideal) x0 x1 x2 x3 (ix3 b s l)
    = g10 (rX x0) (rM x1) (rN x2) (rW x3) b s l := by
  have h := v23_apply x0 x1 x2 x3 b s (colZ l)
  unfold g10
  rw [← h]
  simp only [val_main_v139, val_main_v131, val_main_v130, val_main_v129, val_main_v128, val_main_v127]
  generalize val_main_v23 (F := Ideal) x0 x1 x2 x3 = y
  have hl := l.isLt
  pointwise
  by_cases h1 : l.val < 1024
  · rw [dif_pos h1]
    by_cases h2 : l.val < 512
    · rw [dif_pos h2]
      have e1 : l.val / 512 = 0 := by omega
      have e2 : l.val % 512 = l.val := by omega
      exact congrArg (fun i => y (ix3 b s i)) (Fin.ext (by unfold colZ col base; simp [e1, e2]))
    · rw [dif_neg h2]
      have e1 : l.val / 512 = 1 := by omega
      have e2 : l.val % 512 = l.val - 512 := by omega
      exact congrArg (fun i => y (ix3 b s i)) (Fin.ext (by unfold colZ col base; simp [e1, e2]))
  · rw [dif_neg h1]
    have e1 : l.val / 512 = 2 := by omega
    have e2 : l.val % 512 = l.val - 1024 := by omega
    exact congrArg (fun i => y (ix3 b s i)) (Fin.ext (by unfold colZ col base; simp [e1, e2]))

theorem v141_apply (l : Fin 3072) : val_main_v141 (F := Ideal) x0 x1 x2 x3 (ix3 b s l)
    = g11 (rX x0) (rM x1) (rN x2) (rW x3) b s l := by
  have h := v23_apply x0 x1 x2 x3 b s (colG l)
  unfold g11
  rw [← h]
  unfold val_main_v141 val_main_v140
  generalize val_main_v23 (F := Ideal) x0 x1 x2 x3 = y
  unfold colG
  pointwise

theorem v135_apply (l : Fin 128) : val_main_v135 (F := Ideal) x0 x1 x2 x3 (ix3 b s l)
    = g12 (rX x0) (rM x1) (rN x2) (rW x3) b s l := by
  unfold g12
  simp only [← v23_apply]
  simp only [val_main_v135, val_main_v134, val_main_v133, val_main_v132]
  generalize val_main_v23 (F := Ideal) x0 x1 x2 x3 = y
  pointwise [val_main_call5_v0, val_main_c_8]
  rw [sitofp_nought]
  split_ifs <;> first | rfl | omega

end Cert.Inproj.Ref
end
-- ==== Proof.InprojRefRun.lean ====
/-
  The projection's reference runs and leaves the six results, read at their places.
-/
module

public import proofs.«01_k».proof.Proof.InprojRef
public import proofs.«01_k».proof.Proof.Gen.Reference3Ideal.Run

@[expose] public section

set_option maxRecDepth 16384

noncomputable section

namespace Cert.Inproj.Ref

open Idealize.ShloMosaic Idealize.ShloMosaic.TcCoe Idealize.SL.Sem Cert.Reference3Ideal Cert.Reference3Ideal.Gen Cert.Reference3Ideal.Read

variable (m : (ℓ : Loc nD τ sig) → Buf (Elt Ideal) ℓ) (ρ : Dev nD → PrngReg)

/-- A place of a result of three axes. -/
theorem at3 {n₀ n₁ n₂ : ℕ} (i : (⟨3, ![n₀, n₁, n₂]⟩ : Shape).Idx) : ∃ a b c, i = ix3 a b c :=
  ⟨i 0, i 1, i 2, by funext a; fin_cases a <;> rfl⟩

variable (x0 : FVec Ideal S4x8192x1024 .f32) (x1 : FVec Ideal S4x6144 .f32) (x2 : FVec Ideal S1024 .f32)
  (x3 : FVec Ideal S1024x7696 .f32) (x4 : FVec Ideal S4x1536 .f32) (x5 : FVec Ideal S4x1024 .f32) (x6 : FVec Ideal S1024 .f32)
  (x7 : FVec Ideal S4x512 .f32) (x8 : FVec Ideal S512 .f32)

theorem v136_fn : val_main_v136 (F := Ideal) x0 x1 x2 x3 x4 = fun i => g7 (rX x0) (rM x1) (rN x2) (rW x3) (fun k j => x4 (ix2 k j)) (i 0) (i 1) (i 2) := by
  funext i
  obtain ⟨b, s, l, rfl⟩ := at3 i
  exact v136_apply x0 x1 x2 x3 x4 b s l

theorem v137_fn : val_main_v137 (F := Ideal) x0 x1 x2 x3 x5 x6 = fun i => g8 (rX x0) (rM x1) (rN x2) (rW x3) (fun k j => x5 (ix2 k j)) (fun k => x6 (ix1 k)) (i 0) (i 1) (i 2) := by
  funext i
  obtain ⟨b, s, l, rfl⟩ := at3 i
  exact v137_apply x0 x1 x2 x3 x5 x6 b s l

theorem v138_fn : val_main_v138 (F := Ideal) x0 x1 x2 x3 x7 x8 = fun i => g9 (rX x0) (rM x1) (rN x2) (rW x3) (fun k j => x7 (ix2 k j)) (fun k => x8 (ix1 k)) (i 0) (i 1) (i 2) := by
  funext i
  obtain ⟨b, s, l, rfl⟩ := at3 i
  exact v138_apply x0 x1 x2 x3 x7 x8 b s l

theorem v139_fn : val_main_v139 (F := Ideal) x0 x1 x2 x3 = fun i => g10 (rX x0) (rM x1) (rN x2) (rW x3) (i 0) (i 1) (i 2) := by
  funext i
  obtain ⟨b, s, l, rfl⟩ := at3 i
  exact v139_apply x0 x1 x2 x3 b s l

theorem v141_fn : val_main_v141 (F := Ideal) x0 x1 x2 x3 = fun i => g11 (rX x0) (rM x1) (rN x2) (rW x3) (i 0) (i 1) (i 2) := by
  funext i
  obtain ⟨b, s, l, rfl⟩ := at3 i
  exact v141_apply x0 x1 x2 x3 b s l

theorem v135_fn : val_main_v135 (F := Ideal) x0 x1 x2 x3 = fun i => g12 (rX x0) (rM x1) (rN x2) (rW x3) (i 0) (i 1) (i 2) := by
  funext i
  obtain ⟨b, s, l, rfl⟩ := at3 i
  exact v135_apply x0 x1 x2 x3 b s l

abbrev A0 (c : Dev nD) : FVec Ideal S4x8192x1024 .f32 := m ((c : Thread nD τ).loc main_arg0)
abbrev A1 (c : Dev nD) : FVec Ideal S4x6144 .f32 := m ((c : Thread nD τ).loc main_arg1)
abbrev A2 (c : Dev nD) : FVec Ideal S1024 .f32 := m ((c : Thread nD τ).loc main_arg2)
abbrev A3 (c : Dev nD) : FVec Ideal S1024x7696 .f32 := m ((c : Thread nD τ).loc main_arg3)
abbrev A4 (c : Dev nD) : FVec Ideal S4x1536 .f32 := m ((c : Thread nD τ).loc main_arg4)
abbrev A5 (c : Dev nD) : FVec Ideal S4x1024 .f32 := m ((c : Thread nD τ).loc main_arg5)
abbrev A6 (c : Dev nD) : FVec Ideal S1024 .f32 := m ((c : Thread nD τ).loc main_arg6)
abbrev A7 (c : Dev nD) : FVec Ideal S4x512 .f32 := m ((c : Thread nD τ).loc main_arg7)
abbrev A8 (c : Dev nD) : FVec Ideal S512 .f32 := m ((c : Thread nD τ).loc main_arg8)

theorem run : θ_run defs (onTc (τ := τ) (main (F := Ideal))) ⟨m, fun _ => 0, ρ⟩ fun r => ∀ c : Dev nD,
      r.2.mem ((c : Thread nD τ).loc main_v136) = (fun i => g7 (rX (A0 m c)) (rM (A1 m c)) (rN (A2 m c)) (rW (A3 m c)) (fun k j => A4 m c (ix2 k j)) (i 0) (i 1) (i 2))
      ∧ r.2.mem ((c : Thread nD τ).loc main_v137) = (fun i => g8 (rX (A0 m c)) (rM (A1 m c)) (rN (A2 m c)) (rW (A3 m c)) (fun k j => A5 m c (ix2 k j)) (fun k => A6 m c (ix1 k)) (i 0) (i 1) (i 2))
      ∧ r.2.mem ((c : Thread nD τ).loc main_v138) = (fun i => g9 (rX (A0 m c)) (rM (A1 m c)) (rN (A2 m c)) (rW (A3 m c)) (fun k j => A7 m c (ix2 k j)) (fun k => A8 m c (ix1 k)) (i 0) (i 1) (i 2))
      ∧ r.2.mem ((c : Thread nD τ).loc main_v139) = (fun i => g10 (rX (A0 m c)) (rM (A1 m c)) (rN (A2 m c)) (rW (A3 m c)) (i 0) (i 1) (i 2))
      ∧ r.2.mem ((c : Thread nD τ).loc main_v141) = (fun i => g11 (rX (A0 m c)) (rM (A1 m c)) (rN (A2 m c)) (rW (A3 m c)) (i 0) (i 1) (i 2))
      ∧ r.2.mem ((c : Thread nD τ).loc main_v135) = (fun i => g12 (rX (A0 m c)) (rM (A1 m c)) (rN (A2 m c)) (rW (A3 m c)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run _ _ _).mono (fun r h c => ?_) (Cert.Reference3Ideal.Value.run m ρ)
  obtain ⟨e0, e1, e2, e3, e4, e5, hk⟩ := h c
  refine ⟨e0.trans ((val_main_v136_eq m c).trans (v136_fn _ _ _ _ _)), e1.trans ((val_main_v137_eq m c).trans (v137_fn _ _ _ _ _ _)),
    e2.trans ((val_main_v138_eq m c).trans (v138_fn _ _ _ _ _ _)), e3.trans ((val_main_v139_eq m c).trans (v139_fn _ _ _ _)),
    e4.trans ?_, e5.trans ?_, hk⟩
  · exact (val_main_v141_eq (m ((c.tc : Thread nD τ).loc main_arg0)) (m ((c.tc : Thread nD τ).loc main_arg1)) (m ((c.tc : Thread nD τ).loc main_arg2)) (m ((c.tc : Thread nD τ).loc main_arg3))).trans (v141_fn _ _ _ _)
  · exact (val_main_v135_eq (m ((c.tc : Thread nD τ).loc main_arg0)) (m ((c.tc : Thread nD τ).loc main_arg1)) (m ((c.tc : Thread nD τ).loc main_arg2)) (m ((c.tc : Thread nD τ).loc main_arg3))).trans (v135_fn _ _ _ _)

end Cert.Inproj.Ref
end
-- ==== Proof.InprojFinite.lean ====
/-
  What the precondition `finite` says of the projection kernel's arguments: every entry is a real.
-/
module

public import proofs.«01_k».proof.Defs
public import proofs.«01_k».proof.Proof.InprojSpec

@[expose] public section

set_option maxRecDepth 16384

noncomputable section

namespace Cert.Inproj

open Idealize.ShloMosaic Idealize.ShloMosaic.TcCoe Idealize.SL.Sem Cert.Pre_finite

/-- The shape relations the precondition's operations take. -/
theorem finite_facts : Cert.Pre_finite.Facts := by
  constructor <;> decide

/-- A value whose size is below the infinity is a real. -/
theorem isR_of_lt (x : EReal) (h : Ideal.cmp .olt (max x (-x)) (Ideal.ofBits .f32 0x7F800000#32) = 1#1) : IsR x := by
  rw [show Ideal.ofBits .f32 0x7F800000#32 = ⊤ from by simp [Ideal.ofBits, Ideal.ieee]] at h
  induction x with
  | bot => simp [Ideal.cmp] at h
  | top => simp [Ideal.cmp] at h
  | coe r => exact ⟨r, rfl⟩

/-- An array whose entries are all of size below the infinity is one of reals. -/
theorem isR_of_all {t : Shape} (hb : S_.BroadcastsInDim t (![] : Fin 0 → Fin t.rank)) (a : FVec Ideal t .f32)
    (h : cmpf .olt (Host.absf a) (broadcastInDim t ![] hb (constant S_ .f32 0x7F800000#32)) = fun _ => 1#1) (i : t.Idx) : IsR (a i) :=
  isR_of_lt _ (congrFun h i)

theorem reals (m : (ℓ : Loc Cert.Kernel3Ideal.nD Cert.Kernel3Ideal.τ Cert.Kernel3Ideal.sig) → Buf (Elt Ideal) ℓ)
    (h : @Cert.Pre_Kernel3Ideal_finite finite_facts m) (c : Dev Cert.Kernel3Ideal.nD) :
    (∀ i, IsR (m ((c : Thread Cert.Kernel3Ideal.nD Cert.Kernel3Ideal.τ).loc Cert.Kernel3Ideal.main_arg0) i))
    ∧ (∀ i, IsR (m ((c : Thread Cert.Kernel3Ideal.nD Cert.Kernel3Ideal.τ).loc Cert.Kernel3Ideal.main_arg1) i))
    ∧ (∀ i, IsR (m ((c : Thread Cert.Kernel3Ideal.nD Cert.Kernel3Ideal.τ).loc Cert.Kernel3Ideal.main_arg2) i))
    ∧ (∀ i, IsR (m ((c : Thread Cert.Kernel3Ideal.nD Cert.Kernel3Ideal.τ).loc Cert.Kernel3Ideal.main_arg3) i))
    ∧ (∀ i, IsR (m ((c : Thread Cert.Kernel3Ideal.nD Cert.Kernel3Ideal.τ).loc Cert.Kernel3Ideal.main_arg4) i))
    ∧ (∀ i, IsR (m ((c : Thread Cert.Kernel3Ideal.nD Cert.Kernel3Ideal.τ).loc Cert.Kernel3Ideal.main_arg5) i))
    ∧ (∀ i, IsR (m ((c : Thread Cert.Kernel3Ideal.nD Cert.Kernel3Ideal.τ).loc Cert.Kernel3Ideal.main_arg6) i)) := by
  obtain ⟨h0, h1, h2, h3, h4, h5, h6⟩ := h c
  exact ⟨isR_of_all _ _ h0, isR_of_all _ _ h1, isR_of_all _ _ h2, isR_of_all _ _ h3, isR_of_all _ _ h4, isR_of_all _ _ h5,
    isR_of_all _ _ h6⟩

end Cert.Inproj
end
-- ==== Proof.InprojClaim.lean ====
/-
  The value claim of the projection call: of real arguments both programs run and leave the same six arrays.
-/
module

public import proofs.«01_k».proof.Defs
public import proofs.«01_k».proof.Proof.InprojFinal
public import proofs.«01_k».proof.Proof.InprojRefRun
public import proofs.«01_k».proof.Proof.InprojFinite

@[expose] public section

set_option maxRecDepth 16384

noncomputable section

namespace Cert.Inproj

open Idealize.ShloMosaic Idealize.ShloMosaic.TcCoe Idealize.SL.Sem

theorem claim : @Cert.algebraic_Kernel3Ideal_Reference3Ideal_pre_finite Cert.Kernel3Ideal.Gen.facts Cert.Reference3Ideal.Gen.facts
    finite_facts := by
  intro m g m' g' hp hm
  have hR : ∀ c, AllR m c := fun c => by
    obtain ⟨h0, h1, h2, h3, h4, h5, h6⟩ := reals m hp c
    exact ⟨fun _ _ _ => h0 _, fun _ _ => h1 _, fun _ => h2 _, fun _ _ => h3 _, fun _ _ => h4 _, fun _ _ => h5 _, fun _ => h6 _⟩
  refine ⟨fun c => G7 m c, fun c => G8 m c, fun c => G9 m c, fun c => G10 m c, fun c => G11 m c, fun c => G12 m c, run m g hR, ?_⟩
  refine (θ_run _ _ _).mono (fun r h c => ?_) (Ref.run m' g')
  obtain ⟨q0, q1, q2, q3, q4, q5, hk⟩ := h c
  obtain ⟨e0, e1, e2, e3, e4, e5, e6, e7, e8⟩ := hm c
  refine ⟨q0.trans ?_, q1.trans ?_, q2.trans ?_, q3.trans ?_, q4.trans ?_, q5.trans ?_, hk⟩
  · unfold Ref.A0 Ref.A1 Ref.A2 Ref.A3 Ref.A4; rw [e0, e1, e2, e3, e4]; rfl
  · unfold Ref.A0 Ref.A1 Ref.A2 Ref.A3 Ref.A5 Ref.A6; rw [e0, e1, e2, e3, e5, e6]; rfl
  · unfold Ref.A0 Ref.A1 Ref.A2 Ref.A3 Ref.A7 Ref.A8; rw [e0, e1, e2, e3, e7, e8]; rfl
  all_goals unfold Ref.A0 Ref.A1 Ref.A2 Ref.A3; rw [e0, e1, e2, e3]; rfl

end Cert.Inproj
end
-- ==== Proof.ModValue.lean ====
/-
  The modulation kernel's result array as a function of the argument arrays.
-/
module

public import proofs.«01_k».proof.Proof.InprojSpec
public import proofs.«01_k».proof.Proof.Gen.Kernel4Ideal.Frame
public import Idealize.ShloMosaic.Lib.Claim

@[expose] public section

set_option maxRecDepth 16384

noncomputable section

namespace Cert.Mod

open Idealize.ShloMosaic Idealize.ShloMosaic.TcCoe Idealize.SL.Sem Cert.Kernel4Ideal Cert.Kernel4Ideal.Gen
open Cert.Inproj (IsR silu silu_half)

/-- One element of a layer's modulation: an activated row times the layer's weights, plus its bias. -/
def spec (C : Fin 1024 → EReal) (W : FVec Ideal S2x1024x6144 .f32) (B : FVec Ideal S2x6144 .f32) (d : Fin 2) (l : Fin 6144) : EReal :=
  (∑ k : Fin 1024, silu (C k) * W (ix3 d k l)) + B (ix2 d l)

/-- The conditioning padded with zero rows. -/
def padded (C : FVec Ideal S4x1024 .f32) : FVec Ideal S8x1024 .f32 :=
  pad (s := S4x1024) (u := S_) S8x1024 ![0, 0] ![4, 0] ![0, 0] C
    (sitofp .f32 (constantI S_ 32 0#32) : FVec Ideal S_ .f32) pads_S4x1024_S8x1024_040_000 h_S_

theorem padded_apply (C : FVec Ideal S4x1024 .f32) (b : Fin 8) (k : Fin 1024) :
    padded C (ix2 b k) = if h : b.val < 4 then C (ix2 ⟨b.val, h⟩ k) else 0 := by
  unfold padded
  pointwise
  rw [show FloatOps.sitofp (F := Ideal) FTy.f32 0#32 = (0 : EReal) from by
    show ((((0#32 : BitVec 32).toInt : ℤ) : ℝ) : EReal) = 0
    simp]

theorem padded_real (C : FVec Ideal S4x1024 .f32) (h : ∀ i, IsR (C i)) (b : Fin 8) (k : Fin 1024) : IsR (padded C (ix2 b k)) := by
  rw [padded_apply]
  by_cases hb : b.val < 4
  · rw [dif_pos hb]
    exact h _
  · rw [dif_neg hb]
    exact ⟨0, rfl⟩

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, at one element. -/
theorem out_apply (x0 : Vec Ideal S8x1024 .f32) (x1 : Vec Ideal S1x1024x1536 .f32) (x2 : Vec Ideal S1x1x1536 .f32)
    (h : ∀ i, IsR (x0 i)) (b : Fin 8) (l : Fin 1536) :
    out0_3 x0 x1 x2 (ix3 0 b l) = (∑ k : Fin 1024, silu (x0 (ix2 b k)) * x1 (ix3 0 k l)) + x2 (ix3 0 0 l) := by
  unfold out0_3
  rw [View.canon_unit_zero hz3]
  simp only [View.ld_unit_zero (S := S8x1024) hz2, View.ld_unit_zero (S := S1x1024x1536) hz3,
    View.ld_unit_zero (S := S1x1x1536) hz3, ← silu_half _ (h _)]
  pointwise [k0_pay1]

variable (m : (ℓ : Loc nD τ sig) → Buf (Elt Ideal) ℓ) (ρ : Dev nD → PrngReg)

/-- The layer of a grid point. -/
def tl (t : Fin cfg0.N) : Fin 2 := ⟨t.val / 4, by have : t.val < 8 := t.isLt; omega⟩

/-- The column of the result of column `l` of a grid point's block. -/
def tc (t : Fin cfg0.N) (l : Fin 1536) : Fin 6144 := ⟨t.val % 4 * 1536 + l.val, by omega⟩

theorem i0 : ∀ t : Fin cfg0.N, win0_0.index t = ![0, 0] := (by decide +kernel : ∀ t : Fin grid0.N, _)
theorem i1 : ∀ t : Fin cfg0.N, win0_1.index t = ![t.val / 4, 0, t.val % 4] := (by decide +kernel : ∀ t : Fin grid0.N, _)
theorem i2 : ∀ t : Fin cfg0.N, win0_2.index t = ![t.val / 4, 0, t.val % 4] := (by decide +kernel : ∀ t : Fin grid0.N, _)
theorem i3 : ∀ t : Fin cfg0.N, win0_3.index t = ![t.val / 4, 0, t.val % 4] := (by decide +kernel : ∀ t : Fin grid0.N, _)

theorem emb3 (t : Fin cfg0.N) (b : Fin 8) (l : Fin 1536) :
    ((cfg0.win 3).blk t).view.emb (ix3 0 b l) = ix3 (tl t) b (tc t l) := by unfold tl tc; blk_ext [i3 t]

theorem entry0 (c : Dev nD) : V m c main_v0 = padded (m ((c : Thread nD τ).loc main_arg0)) := by
  entry_read
  rfl

theorem rd0 (c : Dev nD) (t : Fin cfg0.N) (b : Fin 8) (k : Fin 1024) :
    iblk m c 0 t (ix2 b k) = padded (m ((c : Thread nD τ).loc main_arg0)) (ix2 b k) := by
  rw [← entry0]
  unfold iblk
  generalize V m c = v
  blk_ext [i0 t]

theorem rd1 (c : Dev nD) (t : Fin cfg0.N) (k : Fin 1024) (l : Fin 1536) :
    iblk m c 1 t (ix3 0 k l) = m ((c : Thread nD τ).loc main_arg1) (ix3 (tl t) k (tc t l)) := by
  unfold tl tc; blk_ext [iblk, V, i1 t]
theorem entry1 (c : Dev nD) : V m c main_v1
    = shapeCast S2x1x6144 (m ((c : Thread nD τ).loc main_arg2) : FVec Ideal S2x6144 .f32) shapeCasts_S2x6144_S2x1x6144 := by
  entry_read
  rfl

theorem bias_apply (B : FVec Ideal S2x6144 .f32) (d : Fin 2) (l : Fin 6144) :
    shapeCast S2x1x6144 B shapeCasts_S2x6144_S2x1x6144 (ix3 d 0 l) = B (ix2 d l) := by
  pointwise

theorem rd2 (c : Dev nD) (t : Fin cfg0.N) (l : Fin 1536) :
    iblk m c 2 t (ix3 0 0 l) = m ((c : Thread nD τ).loc main_arg2) (ix2 (tl t) (tc t l)) := by
  refine Eq.trans (b := V m c main_v1 (ix3 (tl t) 0 (tc t l))) ?_ ?_
  · unfold iblk tl tc
    generalize V m c = v
    blk_ext [i2 t]
  · rw [entry1]
    exact bias_apply _ _ _

/-- The region's result array as a function of the argument arrays. -/
def G8 (c : Dev nD) : FVec Ideal S2x8x6144 .f32 := fun i =>
  spec (fun k => padded (m ((c : Thread nD τ).loc main_arg0)) (ix2 (i 1) k)) (m ((c : Thread nD τ).loc main_arg1))
    (m ((c : Thread nD τ).loc main_arg2)) (i 0) (i 2)

theorem point (c : Dev nD) (hR : ∀ i, IsR (m ((c : Thread nD τ).loc main_arg0) i)) (t : Fin cfg0.N) (y : S1x8x1536.Idx) :
    out0_3 (iblk m c 0 t) (iblk m c 1 t) (iblk m c 2 t) y = G8 m c (((cfg0.win 3).blk t).view.emb y) := by
  obtain ⟨z, b, l, rfl⟩ : ∃ (z : Fin 1) (b : Fin 8) (l : Fin 1536), y = ix3 z b l :=
    ⟨y 0, y 1, y 2, by funext a; fin_cases a <;> rfl⟩
  obtain rfl : z = 0 := Subsingleton.elim _ _
  have h : ∀ i : S8x1024.Idx, IsR (iblk m c 0 t i) := fun i => by
    obtain ⟨b, k, rfl⟩ : ∃ (b : Fin 8) (k : Fin 1024), i = ix2 b k := ⟨i 0, i 1, by funext a; fin_cases a <;> rfl⟩
    rw [rd0]
    exact padded_real _ hR b k
  rw [out_apply _ _ _ h, emb3]
  simp only [rd0, rd1, rd2]
  rfl

/-- The region's result array after the run. -/
theorem final (c : Dev nD) (hR : ∀ i, IsR (m ((c : Thread nD τ).loc main_arg0) i)) : (dats m 0 c).arrAt 3 cfg0.N = G8 m c := by
  refine (dats m 0 c).arrAt_eq_of_covers 3 _ (by decide +kernel) fun t _ y => ?_
  blk_simp
  rw [after0_3]
  exact point m c hR t y

/-- The result as a function of the argument arrays. -/
def G (c : Dev nD) : FVec Ideal S2x4x6144 .f32 := fun i =>
  spec (fun k => m ((c : Thread nD τ).loc main_arg0) (ix2 (i 1) k)) (m ((c : Thread nD τ).loc main_arg1))
    (m ((c : Thread nD τ).loc main_arg2)) (i 0) (i 2)

/-- The first four rows of the region's result do not see the padding. -/
theorem cut_eq (c : Dev nD) :
    extractStridedSlice S2x4x6144 ![0, 0, 0] (G8 m c) slices_S2x8x6144_S2x4x6144_0_0_0 = G m c := by
  funext i
  obtain ⟨d, b, l, rfl⟩ : ∃ (d : Fin 2) (b : Fin 4) (l : Fin 6144), i = ix3 d b l :=
    ⟨i 0, i 1, i 2, by funext a; fin_cases a <;> rfl⟩
  have h : ∀ k, padded (m ((c : Thread nD τ).loc main_arg0)) (ix2 (⟨b.val, by omega⟩ : Fin 8) k)
      = m ((c : Thread nD τ).loc main_arg0) (ix2 b k) := fun k => by
    rw [padded_apply, dif_pos b.isLt]
  refine Eq.trans (b := G8 m c (ix3 d (⟨b.val, by omega⟩ : Fin 8) l)) ?_ ?_
  · generalize G8 m c = y
    pointwise
  · exact congrArg (fun C => spec C (m ((c : Thread nD τ).loc main_arg1)) (m ((c : Thread nD τ).loc main_arg2)) d l) (funext h)

/-- What the host's line after the region leaves. -/
theorem tail_v3 (c : Dev nD) :
    Pipeline.afterTail₀ cfgs (dats m) 0 (V0 m) [hostOps1] c main_v3
      = extractStridedSlice S2x4x6144 ![0, 0, 0] ((dats m 0 c).arrAt 3 cfg0.N) slices_S2x8x6144_S2x4x6144_0_0_0 := by
  unfold Pipeline.afterTail₀
  rw [← Pipeline.withArrays_arr spec0 (by decide) c (V0 m c) (fun w => (dats m 0 c).arrAt w cfg0.N) 3]
  generalize Pipeline.withArrays spec0 c (V0 m c) (fun w => (dats m 0 c).arrAt w cfg0.N) = σ
  entry_read
  rfl

/-- The run with the result at that function. -/
theorem run (hR : ∀ (c : Dev nD) i, IsR (m ((c : Thread nD τ).loc main_arg0) i)) :
    θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  refine ((h.1 c).2 main_v3 (Pipeline.mem_restRefs_of main_v3 (by decide) (by decide))).trans ((tail_v3 m c).trans ?_)
  rw [final m c (hR c)]
  exact cut_eq m c

end Cert.Mod
end
-- ==== Proof.ModClaim.lean ====
/-
  The value claim of the modulation call: of a finite conditioning both programs run and leave the same array.
-/
module

public import proofs.«01_k».proof.Defs
public import proofs.«01_k».proof.Proof.ModValue
public import proofs.«01_k».proof.Proof.InprojFinite
public import proofs.«01_k».proof.Proof.Gen.Reference4Ideal.Read
public import proofs.«01_k».proof.Proof.Gen.Reference4Ideal.Run

@[expose] public section

set_option maxRecDepth 16384

noncomputable section

namespace Cert.Mod

open Idealize.ShloMosaic Idealize.ShloMosaic.TcCoe Idealize.SL.Sem
open Cert.Inproj (IsR silu one_f32)

section
open Cert.Reference4Ideal Cert.Reference4Ideal.Gen Cert.Reference4Ideal.Value Cert.Reference4Ideal.Read

variable (C : FVec Ideal S4x1024 .f32) (W : FVec Ideal S2x1024x6144 .f32) (B : FVec Ideal S2x6144 .f32)

theorem act0 (b : Fin 4) (k : Fin 1024) : val_main_v0 (F := Ideal) C (ix2 b k) = silu (C (ix2 b k)) := by
  unfold silu
  rw [← one_f32]
  pointwise [val_main_v0, val_main_call0_v5, val_main_call0_v4, val_main_call0_v3, val_main_call0_v2, val_main_call0_v1,
    val_main_call0_v0, val_main_call0_cst, val_main_call0_cst_0]

theorem layer0 (b : Fin 4) (l : Fin 6144) : val_main_v8 (F := Ideal) C W B (ix2 b l) = spec (fun k => C (ix2 b k)) W B 0 l := by
  unfold spec
  simp only [← act0]
  simp only [val_main_v8, val_main_v3]
  generalize val_main_v0 (F := Ideal) C = y
  pointwise [val_main_v7, val_main_v6, val_main_v5, val_main_v4, val_main_v2, val_main_v1]

theorem act1 (b : Fin 4) (k : Fin 1024) : val_main_v9 (F := Ideal) C (ix2 b k) = silu (C (ix2 b k)) := by
  unfold silu
  rw [← one_f32]
  pointwise [val_main_v9, val_main_call1_v5, val_main_call1_v4, val_main_call1_v3, val_main_call1_v2, val_main_call1_v1,
    val_main_call1_v0, val_main_call1_cst, val_main_call1_cst_0]

theorem layer1 (b : Fin 4) (l : Fin 6144) : val_main_v17 (F := Ideal) C W B (ix2 b l) = spec (fun k => C (ix2 b k)) W B 1 l := by
  unfold spec
  simp only [← act1]
  simp only [val_main_v17, val_main_v12]
  generalize val_main_v9 (F := Ideal) C = y
  pointwise [val_main_v16, val_main_v15, val_main_v14, val_main_v13, val_main_v11, val_main_v10]

theorem stack0 (b : Fin 4) (l : Fin 6144) : val_main_v18 (F := Ideal) C W B (ix3 0 b l) = spec (fun k => C (ix2 b k)) W B 0 l := by
  rw [← layer0, val_main_v18]
  generalize val_main_v8 (F := Ideal) C W B = y
  pointwise

theorem stack1 (b : Fin 4) (l : Fin 6144) : val_main_v19 (F := Ideal) C W B (ix3 0 b l) = spec (fun k => C (ix2 b k)) W B 1 l := by
  rw [← layer1, val_main_v19]
  generalize val_main_v17 (F := Ideal) C W B = y
  pointwise

/-- The reference's result at one element. -/
theorem ref_apply (d : Fin 2) (b : Fin 4) (l : Fin 6144) : val_main_v20 (F := Ideal) C W B (ix3 d b l) = spec (fun k => C (ix2 b k)) W B d l := by
  obtain rfl | rfl : d = 0 ∨ d = 1 := by omega
  · rw [← stack0, val_main_v20]
    generalize val_main_v18 (F := Ideal) C W B = y
    generalize val_main_v19 (F := Ideal) C W B = z
    pointwise
  · rw [← stack1, val_main_v20]
    generalize val_main_v18 (F := Ideal) C W B = y
    generalize val_main_v19 (F := Ideal) C W B = z
    pointwise

theorem ref_fn : val_main_v20 (F := Ideal) C W B = fun i => spec (fun k => C (ix2 (i 1) k)) W B (i 0) (i 2) := by
  funext i
  obtain ⟨d, b, l, rfl⟩ : ∃ (d : Fin 2) (b : Fin 4) (l : Fin 6144), i = ix3 d b l :=
    ⟨i 0, i 1, i 2, by funext a; fin_cases a <;> rfl⟩
  exact ref_apply C W B d b l

end

/-- The shape relations the precondition's operations take. -/
theorem finite_c_facts : Cert.Pre_finite_c.Facts := by
  constructor <;> decide

theorem claim : @Cert.algebraic_Kernel4Ideal_Reference4Ideal_pre_finite_c Cert.Kernel4Ideal.Gen.facts
    Cert.Reference4Ideal.Gen.facts finite_c_facts := by
  intro m g m' g' hp hm
  refine ⟨fun c => G m c, run m g fun c i => Cert.Inproj.isR_of_lt _ (congrFun (hp c) i), ?_⟩
  refine (θ_run _ _ _).mono (fun r h c => ?_) (Cert.Reference4Ideal.Value.run (F := Ideal) m' g')
  obtain ⟨q0, hk⟩ := h c
  obtain ⟨e0, e1, e2⟩ := hm c
  refine ⟨q0.trans ((Cert.Reference4Ideal.Read.val_main_v20_eq _ _ _).trans ((ref_fn _ _ _).trans ?_)), hk⟩
  unfold G
  rw [e0, e1, e2]

end Cert.Mod
end
-- ==== Proof.lean ====
/-
  The proof of `Cert.Claim` (proofs.«01_k».proof.Defs). The frames of the kernels are the generated ones, those of the
  references are their generated runs read at the arguments; an ideal program is its kernel by definition; the value
  claims are proved in the modules under Proof/.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.LruClaim
public import proofs.«01_k».proof.Proof.MergeClaim
public import proofs.«01_k».proof.Proof.Gen.Reference3Ideal.Run
public import proofs.«01_k».proof.Proof.InprojClaim
public import proofs.«01_k».proof.Proof.ModClaim
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read

@[expose] public section

noncomputable section

namespace Cert.Proof

open Idealize.ShloMosaic Idealize.SL.Sem

theorem frame_r : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem frame_r2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem frame_r3 : Cert.quiescent_Reference3Ideal (hReference3Ideal := Cert.Reference3Ideal.Gen.facts) := fun m g _ =>
  (θ_run Cert.Reference3Ideal.defs _ _).mono
    (fun r h => ⟨fun c => (h c).2.2.2.2.2.2, sem_eq_zero_of_no_sems (by decide) r.2⟩)
    (Cert.Reference3Ideal.Value.run (F := Ideal) m g)

theorem frame_r4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Inproj.finite_facts, Cert.Mod.finite_c_facts,
    fun m g _ => Cert.Kernel.Gen.frame m g, fun m g _ => Cert.KernelIdeal.Gen.frame m g, frame_r,
    fun m g _ => Cert.Kernel2.Gen.frame m g, fun m g _ => Cert.Kernel2Ideal.Gen.frame m g, frame_r2,
    fun m g _ => Cert.Kernel3.Gen.frame m g, fun m g _ => Cert.Kernel3Ideal.Gen.frame m g,
    fun m g _ => Cert.Kernel3Ideal.Gen.frame m g, frame_r3, fun m g _ => frame_r3 m g trivial,
    fun m g _ => Cert.Kernel4.Gen.frame m g, fun m g _ => Cert.Kernel4Ideal.Gen.frame m g,
    fun m g _ => Cert.Kernel4Ideal.Gen.frame m g, frame_r4, fun m g _ => frame_r4 m g trivial,
    trivial, Cert.Lru.claim, trivial, Cert.Merge.claim, trivial, Cert.Inproj.claim, trivial, Cert.Mod.claim⟩

end Cert.Proof
end
